-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonzero_out_scale [hPre_nonzero_out_scale : Cert.Pre_nonzero_out_scale.Facts] (m : (ℓ : Loc Cert.KernelIdeal.nD Cert.KernelIdeal.τ Cert.KernelIdeal.sig) → Buf (Elt Ideal) ℓ) : Prop :=
  ∀ c : Dev Cert.KernelIdeal.nD,
    (Cert.Pre_nonzero_out_scale.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonzero_out_scale [hPre_nonzero_out_scale : Cert.Pre_nonzero_out_scale.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonzero_out_scale.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3)
      ∧ r.2.mem ((c.tc : Thread Cert.ConvReferenceIdeal.nD Cert.ConvReferenceIdeal.τ).loc Cert.ConvReferenceIdeal.main_arg4) = m ((c.tc : Thread Cert.ConvReferenceIdeal.nD Cert.ConvReferenceIdeal.τ).loc Cert.ConvReferenceIdeal.main_arg4)
      ∧ r.2.mem ((c.tc : Thread Cert.ConvReferenceIdeal.nD Cert.ConvReferenceIdeal.τ).loc Cert.ConvReferenceIdeal.main_arg5) = m ((c.tc : Thread Cert.ConvReferenceIdeal.nD Cert.ConvReferenceIdeal.τ).loc Cert.ConvReferenceIdeal.main_arg5)
      ∧ r.2.mem ((c.tc : Thread Cert.ConvReferenceIdeal.nD Cert.ConvReferenceIdeal.τ).loc Cert.ConvReferenceIdeal.main_arg6) = m ((c.tc : Thread Cert.ConvReferenceIdeal.nD Cert.ConvReferenceIdeal.τ).loc Cert.ConvReferenceIdeal.main_arg6))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_nonzero_out_scale [hKernelIdeal : Cert.KernelIdeal.Facts] [hPre_nonzero_out_scale : Cert.Pre_nonzero_out_scale.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonzero_out_scale m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_nonzero_out_scale [hReferenceIdeal : Cert.ReferenceIdeal.Facts] [hPre_nonzero_out_scale : Cert.Pre_nonzero_out_scale.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonzero_out_scale m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)
      ∧ m' ((c.tc : Thread Cert.ConvReferenceIdeal.nD Cert.ConvReferenceIdeal.τ).loc Cert.ConvReferenceIdeal.main_arg3) = m ((c.tc : Thread Cert.ConvIdeal.nD Cert.ConvIdeal.τ).loc Cert.ConvIdeal.main_arg3)
      ∧ m' ((c.tc : Thread Cert.ConvReferenceIdeal.nD Cert.ConvReferenceIdeal.τ).loc Cert.ConvReferenceIdeal.main_arg4) = m ((c.tc : Thread Cert.ConvIdeal.nD Cert.ConvIdeal.τ).loc Cert.ConvIdeal.main_arg4)
      ∧ m' ((c.tc : Thread Cert.ConvReferenceIdeal.nD Cert.ConvReferenceIdeal.τ).loc Cert.ConvReferenceIdeal.main_arg5) = m ((c.tc : Thread Cert.ConvIdeal.nD Cert.ConvIdeal.τ).loc Cert.ConvIdeal.main_arg5)
      ∧ m' ((c.tc : Thread Cert.ConvReferenceIdeal.nD Cert.ConvReferenceIdeal.τ).loc Cert.ConvReferenceIdeal.main_arg6) = m ((c.tc : Thread Cert.ConvIdeal.nD Cert.ConvIdeal.τ).loc Cert.ConvIdeal.main_arg6)) →
    ∃ (v0 : (c : Dev Cert.ConvIdeal.nD) → Buf (Elt Ideal) ((c.tc : Thread Cert.ConvIdeal.nD Cert.ConvIdeal.τ).loc Cert.ConvIdeal.main_v9_0)) (v1 : (c : Dev Cert.ConvIdeal.nD) → Buf (Elt Ideal) ((c.tc : Thread Cert.ConvIdeal.nD Cert.ConvIdeal.τ).loc Cert.ConvIdeal.main_v9_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v9_0) = v0 c
          ∧ r.2.mem ((c.tc : Thread Cert.ConvIdeal.nD Cert.ConvIdeal.τ).loc Cert.ConvIdeal.main_v9_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v392) = v0 c
          ∧ r.2.mem ((c.tc : Thread Cert.ConvReferenceIdeal.nD Cert.ConvReferenceIdeal.τ).loc Cert.ConvReferenceIdeal.main_v393) = v1 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3)
          ∧ r.2.mem ((c.tc : Thread Cert.ConvReferenceIdeal.nD Cert.ConvReferenceIdeal.τ).loc Cert.ConvReferenceIdeal.main_arg4) = m' ((c.tc : Thread Cert.ConvReferenceIdeal.nD Cert.ConvReferenceIdeal.τ).loc Cert.ConvReferenceIdeal.main_arg4)
          ∧ r.2.mem ((c.tc : Thread Cert.ConvReferenceIdeal.nD Cert.ConvReferenceIdeal.τ).loc Cert.ConvReferenceIdeal.main_arg5) = m' ((c.tc : Thread Cert.ConvReferenceIdeal.nD Cert.ConvReferenceIdeal.τ).loc Cert.ConvReferenceIdeal.main_arg5)
          ∧ r.2.mem ((c.tc : Thread Cert.ConvReferenceIdeal.nD Cert.ConvReferenceIdeal.τ).loc Cert.ConvReferenceIdeal.main_arg6) = m' ((c.tc : Thread Cert.ConvReferenceIdeal.nD Cert.ConvReferenceIdeal.τ).loc Cert.ConvReferenceIdeal.main_arg6))

def preserves_Kernel_KernelIdeal : Prop :=
  IdealRules.named_const.Statement Cert.KernelIdeal.κ "inv_sqrt2" .f32 0x3F3504F3#32 (((Real.sqrt 2)⁻¹ : ℝ) : EReal)

def algebraic_KernelIdeal_ReferenceIdeal_pre_nonzero_out_scale [hKernelIdeal : Cert.KernelIdeal.Facts] [hReferenceIdeal : Cert.ReferenceIdeal.Facts] [hPre_nonzero_out_scale : Cert.Pre_nonzero_out_scale.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonzero_out_scale m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)) (v4 : (c : Dev Cert.KernelIdeal.nD) → Buf (Elt Ideal) ((c.tc : Thread Cert.KernelIdeal.nD Cert.KernelIdeal.τ).loc Cert.KernelIdeal.main_v10_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_v10_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_v83) = v3 c
          ∧ r.2.mem ((c.tc : Thread Cert.ReferenceIdeal.nD Cert.ReferenceIdeal.τ).loc Cert.ReferenceIdeal.main_v84) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hConv : Cert.Conv.Facts) (hConvIdeal : Cert.ConvIdeal.Facts) (hConvReferenceIdeal : Cert.ConvReferenceIdeal.Facts) (hKernel : Cert.Kernel.Facts) (hKernelIdeal : Cert.KernelIdeal.Facts) (hReferenceIdeal : Cert.ReferenceIdeal.Facts) (hPre_nonzero_out_scale : Cert.Pre_nonzero_out_scale.Facts),
    quiescent_Conv (hConv := hConv)
    ∧ quiescent_ConvIdeal (hConvIdeal := hConvIdeal)
    ∧ quiescent_ConvReferenceIdeal (hConvReferenceIdeal := hConvReferenceIdeal)
    ∧ quiescent_Kernel (hKernel := hKernel)
    ∧ quiescent_KernelIdeal (hKernelIdeal := hKernelIdeal)
    ∧ quiescent_KernelIdeal_pre_nonzero_out_scale (hKernelIdeal := hKernelIdeal) (hPre_nonzero_out_scale := hPre_nonzero_out_scale)
    ∧ quiescent_ReferenceIdeal (hReferenceIdeal := hReferenceIdeal)
    ∧ quiescent_ReferenceIdeal_pre_nonzero_out_scale (hReferenceIdeal := hReferenceIdeal) (hPre_nonzero_out_scale := hPre_nonzero_out_scale)
    ∧ preserves_Conv_ConvIdeal
    ∧ algebraic_ConvIdeal_ConvReferenceIdeal (hConvIdeal := hConvIdeal) (hConvReferenceIdeal := hConvReferenceIdeal)
    ∧ preserves_Kernel_KernelIdeal
    ∧ algebraic_KernelIdeal_ReferenceIdeal_pre_nonzero_out_scale (hKernelIdeal := hKernelIdeal) (hReferenceIdeal := hReferenceIdeal) (hPre_nonzero_out_scale := hPre_nonzero_out_scale)
-- ==== Pre_nonzero_out_scale.lean ====
abbrev S128x14x16x512 : Shape := ⟨4, ![128, 14, 16, 512]⟩
abbrev S128x14x16 : Shape := ⟨3, ![128, 14, 16]⟩
abbrev S512x2048 : Shape := ⟨2, ![512, 2048]⟩
abbrev S2048 : Shape := ⟨1, ![2048]⟩
abbrev S2048x512 : Shape := ⟨2, ![2048, 512]⟩
abbrev S512 : Shape := ⟨1, ![512]⟩
abbrev S_ : Shape := ⟨0, ![]⟩

class Facts : Prop where

variable [Facts]

def fn {F : FTy → Type} [FloatOps F] (main_arg0 : IVec S128x14x16x512 8) (main_arg1 : FVec F S128x14x16 .f32) (main_arg2 : FVec F S128x14x16x512 .bf16) (main_arg3 : IVec S512x2048 8) (main_arg4 : FVec F S2048 .f32) (main_arg5 : FVec F S2048 .f32) (main_arg6 : FVec F S2048 .f32) (main_arg7 : FVec F S2048 .f32) (main_arg8 : IVec S2048x512 8) (main_arg9 : FVec F S512 .f32) (main_arg10 : FVec F S512 .f32) (main_arg11 : FVec F S_ .f32) : IVec S_ 1 :=
  let main_cst : FVec F S_ .f32 := constant S_ .f32 0x00000000#32
  let main_v0 : IVec S_ 1 := cmpf .une main_arg11 main_cst
  main_v0
-- ==== Conv.lean ====
abbrev S128x14x16x512 : Shape := ⟨4, ![128, 14, 16, 512]⟩
abbrev S_ : Shape := ⟨0, ![]⟩
abbrev S7x7x512 : Shape := ⟨3, ![7, 7, 512]⟩
abbrev S512 : Shape := ⟨1, ![512]⟩
abbrev S49x512 : Shape := ⟨2, ![49, 512]⟩
abbrev S1x512 : Shape := ⟨2, ![1, 512]⟩
abbrev S128x224x512 : Shape := ⟨3, ![128, 224, 512]⟩
abbrev S128x1x224 : Shape := ⟨3, ![128, 1, 224]⟩
abbrev S1x14x16x512 : Shape := ⟨4, ![1, 14, 16, 512]⟩
abbrev S1x224x512 : Shape := ⟨3, ![1, 224, 512]⟩
abbrev S1x1x224 : Shape := ⟨3, ![1, 1, 224]⟩
abbrev S20x32x512 : Shape := ⟨3, ![20, 32, 512]⟩
abbrev S14x16x512 : Shape := ⟨3, ![14, 16, 512]⟩
abbrev S16x128 : Shape := ⟨2, ![16, 128]⟩
abbrev S1x16x128 : Shape := ⟨3, ![1, 16, 128]⟩
abbrev S1x128 : Shape := ⟨2, ![1, 128]⟩
abbrev S224x512 : Shape := ⟨2, ![224, 512]⟩
abbrev S224 : Shape := ⟨1, ![224]⟩
abbrev S224x1 : Shape := ⟨2, ![224, 1]⟩
abbrev S1x224 : Shape := ⟨2, ![1, 224]⟩

abbrev nBuf : Space → Nat
  | .hbm => 18
  | .vmem => 13
  | .smem => 0
  | _ => 0

abbrev bufTy : (tb : Table) → Fin (tcTables nBuf tb) → BufTy
  | .hbm, ⟨0, _⟩ => ⟨S128x14x16x512, .i8⟩
  | .hbm, ⟨1, _⟩ => ⟨S_, .f32⟩
  | .hbm, ⟨2, _⟩ => ⟨S7x7x512, .i8⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S49x512, .i8⟩
  | .hbm, ⟨8, _⟩ => ⟨S49x512, .i32⟩
  | .hbm, ⟨9, _⟩ => ⟨S49x512, .f32⟩
  | .hbm, ⟨10, _⟩ => ⟨S512, .f32⟩
  | .hbm, ⟨11, _⟩ => ⟨S512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S128x224x512, .i8⟩
  | .hbm, ⟨17, _⟩ => ⟨S128x1x224, .f32⟩
  | .local _ .vmem, ⟨0, _⟩ => ⟨S1x14x16x512, .i8⟩
  | .local _ .vmem, ⟨1, _⟩ => ⟨S1x14x16x512, .i8⟩
  | .local _ .vmem, ⟨2, _⟩ => ⟨S49x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x224x512, .i8⟩
  | .local _ .vmem, ⟨8, _⟩ => ⟨S1x224x512, .i8⟩
  | .local _ .vmem, ⟨9, _⟩ => ⟨S1x1x224, .f32⟩
  | .local _ .vmem, ⟨10, _⟩ => ⟨S1x1x224, .f32⟩
  | .local _ .vmem, ⟨11, _⟩ => ⟨S20x32x512, .f32⟩
  | .local _ .vmem, ⟨12, _⟩ => ⟨S14x16x512, .f32⟩
  | _, _ => ⟨S128x14x16x512, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32_5 : BitVec 32 := 0#32
  let c4_i32 : BitVec 32 := 4#32
  let v9 : BitVec 32 := Scalar.addi c0_i32_5 c4_i32
  let c1_i32 : BitVec 32 := 1#32
  ⟨c0_i32_5, v9, c1_i32⟩
def k0_mult1 (k0_t1 : Fin k0_t1_loop.trips) : BitVec 32 :=
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  v60
@[reducible] def k0_t2_loop : Scf.Loop 32 :=
  let c0_i32_30 : BitVec 32 := 0#32
  let c14_i32 : BitVec 32 := 14#32
  let v62 : BitVec 32 := Scalar.addi c0_i32_30 c14_i32
  let c1_i32_31 : BitVec 32 := 1#32
  ⟨c0_i32_30, v62, c1_i32_31⟩
def k0_off1 (k0_t1 : Fin k0_t1_loop.trips) (k0_t2 : Fin k0_t2_loop.trips) (c0_i32_34 : BitVec 32) : Fin 3 → Nat :=
  let c0_i32_30 : BitVec 32 := 0#32
  let c1_i32_31 : BitVec 32 := 1#32
  let arg12 : BitVec 32 := Scf.iv c0_i32_30 c1_i32_31 k0_t2
  let v64 : BitVec 32 := Scalar.addi arg12 c0_i32_34
  let v65 : Index := Scalar.indexCast v64
  let c5 : Index := 5#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v66 : Index := Scalar.indexCast v61
  ![v65.toNat, 5, v66.toNat]
def k0_off2 (k0_t1 : Fin k0_t1_loop.trips) : Fin 2 → Nat :=
  let c0_35 : Index := 0#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v69 : Index := Scalar.indexCast v61
  ![0, v69.toNat]
def k0_off3 (k0_t1 : Fin k0_t1_loop.trips) (k0_t2 : Fin k0_t2_loop.trips) (c0_i32_36 : BitVec 32) : Fin 3 → Nat :=
  let c0_i32_30 : BitVec 32 := 0#32
  let c1_i32_31 : BitVec 32 := 1#32
  let arg12 : BitVec 32 := Scf.iv c0_i32_30 c1_i32_31 k0_t2
  let v75 : BitVec 32 := Scalar.addi arg12 c0_i32_36
  let v76 : Index := Scalar.indexCast v75
  let c6 : Index := 6#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v77 : Index := Scalar.indexCast v61
  ![v76.toNat, 6, v77.toNat]
def k0_off4 (k0_t1 : Fin k0_t1_loop.trips) : Fin 2 → Nat :=
  let c1 : Index := 1#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v80 : Index := Scalar.indexCast v61
  ![1, v80.toNat]
def k0_off5 (k0_t1 : Fin k0_t1_loop.trips) (k0_t2 : Fin k0_t2_loop.trips) (c0_i32_37 : BitVec 32) : Fin 3 → Nat :=
  let c0_i32_30 : BitVec 32 := 0#32
  let c1_i32_31 : BitVec 32 := 1#32
  let arg12 : BitVec 32 := Scf.iv c0_i32_30 c1_i32_31 k0_t2
  let v86 : BitVec 32 := Scalar.addi arg12 c0_i32_37
  let v87 : Index := Scalar.indexCast v86
  let c7 : Index := 7#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v88 : Index := Scalar.indexCast v61
  ![v87.toNat, 7, v88.toNat]
def k0_off6 (k0_t1 : Fin k0_t1_loop.trips) : Fin 2 → Nat :=
  let c2 : Index := 2#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v91 : Index := Scalar.indexCast v61
  ![2, v91.toNat]
def k0_off7 (k0_t1 : Fin k0_t1_loop.trips) (k0_t2 : Fin k0_t2_loop.trips) (c0_i32_38 : BitVec 32) : Fin 3 → Nat :=
  let c0_i32_30 : BitVec 32 := 0#32
  let c1_i32_31 : BitVec 32 := 1#32
  let arg12 : BitVec 32 := Scf.iv c0_i32_30 c1_i32_31 k0_t2
  let v97 : BitVec 32 := Scalar.addi arg12 c0_i32_38
  let v98 : Index := Scalar.indexCast v97
  let c8_39 : Index := 8#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v99 : Index := Scalar.indexCast v61
  ![v98.toNat, 8, v99.toNat]
def k0_off8 (k0_t1 : Fin k0_t1_loop.trips) : Fin 2 → Nat :=
  let c3_40 : Index := 3#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v102 : Index := Scalar.indexCast v61
  ![3, v102.toNat]
def k0_off9 (k0_t1 : Fin k0_t1_loop.trips) (k0_t2 : Fin k0_t2_loop.trips) (c0_i32_41 : BitVec 32) : Fin 3 → Nat :=
  let c0_i32_30 : BitVec 32 := 0#32
  let c1_i32_31 : BitVec 32 := 1#32
  let arg12 : BitVec 32 := Scf.iv c0_i32_30 c1_i32_31 k0_t2
  let v108 : BitVec 32 := Scalar.addi arg12 c0_i32_41
  let v109 : Index := Scalar.indexCast v108
  let c9 : Index := 9#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v110 : Index := Scalar.indexCast v61
  ![v109.toNat, 9, v110.toNat]
def k0_off10 (k0_t1 : Fin k0_t1_loop.trips) : Fin 2 → Nat :=
  let c4 : Index := 4#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v113 : Index := Scalar.indexCast v61
  ![4, v113.toNat]
def k0_off11 (k0_t1 : Fin k0_t1_loop.trips) (k0_t2 : Fin k0_t2_loop.trips) (c0_i32_42 : BitVec 32) : Fin 3 → Nat :=
  let c0_i32_30 : BitVec 32 := 0#32
  let c1_i32_31 : BitVec 32 := 1#32
  let arg12 : BitVec 32 := Scf.iv c0_i32_30 c1_i32_31 k0_t2
  let v119 : BitVec 32 := Scalar.addi arg12 c0_i32_42
  let v120 : Index := Scalar.indexCast v119
  let c10 : Index := 10#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v121 : Index := Scalar.indexCast v61
  ![v120.toNat, 10, v121.toNat]
def k0_off12 (k0_t1 : Fin k0_t1_loop.trips) : Fin 2 → Nat :=
  let c5_43 : Index := 5#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v124 : Index := Scalar.indexCast v61
  ![5, v124.toNat]
def k0_off13 (k0_t1 : Fin k0_t1_loop.trips) (k0_t2 : Fin k0_t2_loop.trips) (c0_i32_44 : BitVec 32) : Fin 3 → Nat :=
  let c0_i32_30 : BitVec 32 := 0#32
  let c1_i32_31 : BitVec 32 := 1#32
  let arg12 : BitVec 32 := Scf.iv c0_i32_30 c1_i32_31 k0_t2
  let v130 : BitVec 32 := Scalar.addi arg12 c0_i32_44
  let v131 : Index := Scalar.indexCast v130
  let c11 : Index := 11#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v132 : Index := Scalar.indexCast v61
  ![v131.toNat, 11, v132.toNat]
def k0_off14 (k0_t1 : Fin k0_t1_loop.trips) : Fin 2 → Nat :=
  let c6_45 : Index := 6#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v135 : Index := Scalar.indexCast v61
  ![6, v135.toNat]
def k0_off15 (k0_t1 : Fin k0_t1_loop.trips) : Fin 2 → Nat :=
  let c7_48 : Index := 7#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v146 : Index := Scalar.indexCast v61
  ![7, v146.toNat]
def k0_off16 (k0_t1 : Fin k0_t1_loop.trips) : Fin 2 → Nat :=
  let c8_51 : Index := 8#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v157 : Index := Scalar.indexCast v61
  ![8, v157.toNat]
def k0_off17 (k0_t1 : Fin k0_t1_loop.trips) : Fin 2 → Nat :=
  let c9_54 : Index := 9#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v168 : Index := Scalar.indexCast v61
  ![9, v168.toNat]
def k0_off18 (k0_t1 : Fin k0_t1_loop.trips) : Fin 2 → Nat :=
  let c10_57 : Index := 10#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v179 : Index := Scalar.indexCast v61
  ![10, v179.toNat]
def k0_off19 (k0_t1 : Fin k0_t1_loop.trips) : Fin 2 → Nat :=
  let c11_60 : Index := 11#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v190 : Index := Scalar.indexCast v61
  ![11, v190.toNat]
def k0_off20 (k0_t1 : Fin k0_t1_loop.trips) : Fin 2 → Nat :=
  let c12 : Index := 12#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v201 : Index := Scalar.indexCast v61
  ![12, v201.toNat]
def k0_off21 (k0_t1 : Fin k0_t1_loop.trips) : Fin 2 → Nat :=
  let c13 : Index := 13#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v212 : Index := Scalar.indexCast v61
  ![13, v212.toNat]
def k0_off22 (k0_t1 : Fin k0_t1_loop.trips) : Fin 2 → Nat :=
  let c14 : Index := 14#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v223 : Index := Scalar.indexCast v61
  ![14, v223.toNat]
def k0_off23 (k0_t1 : Fin k0_t1_loop.trips) : Fin 2 → Nat :=
  let c15 : Index := 15#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v234 : Index := Scalar.indexCast v61
  ![15, v234.toNat]
def k0_off24 (k0_t1 : Fin k0_t1_loop.trips) : Fin 2 → Nat :=
  let c16 : Index := 16#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v245 : Index := Scalar.indexCast v61
  ![16, v245.toNat]
def k0_off25 (k0_t1 : Fin k0_t1_loop.trips) : Fin 2 → Nat :=
  let c17 : Index := 17#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v256 : Index := Scalar.indexCast v61
  ![17, v256.toNat]
def k0_off26 (k0_t1 : Fin k0_t1_loop.trips) : Fin 2 → Nat :=
  let c18 : Index := 18#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v267 : Index := Scalar.indexCast v61
  ![18, v267.toNat]
def k0_off27 (k0_t1 : Fin k0_t1_loop.trips) : Fin 2 → Nat :=
  let c19 : Index := 19#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v278 : Index := Scalar.indexCast v61
  ![19, v278.toNat]
def k0_off28 (k0_t1 : Fin k0_t1_loop.trips) : Fin 2 → Nat :=
  let c20 : Index := 20#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v289 : Index := Scalar.indexCast v61
  ![20, v289.toNat]
def k0_off29 (k0_t1 : Fin k0_t1_loop.trips) : Fin 2 → Nat :=
  let c21 : Index := 21#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v300 : Index := Scalar.indexCast v61
  ![21, v300.toNat]
def k0_off30 (k0_t1 : Fin k0_t1_loop.trips) : Fin 2 → Nat :=
  let c22 : Index := 22#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v311 : Index := Scalar.indexCast v61
  ![22, v311.toNat]
def k0_off31 (k0_t1 : Fin k0_t1_loop.trips) : Fin 2 → Nat :=
  let c23 : Index := 23#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v322 : Index := Scalar.indexCast v61
  ![23, v322.toNat]
def k0_off32 (k0_t1 : Fin k0_t1_loop.trips) : Fin 2 → Nat :=
  let c24 : Index := 24#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v333 : Index := Scalar.indexCast v61
  ![24, v333.toNat]
def k0_off33 (k0_t1 : Fin k0_t1_loop.trips) : Fin 2 → Nat :=
  let c25 : Index := 25#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v344 : Index := Scalar.indexCast v61
  ![25, v344.toNat]
def k0_off34 (k0_t1 : Fin k0_t1_loop.trips) : Fin 2 → Nat :=
  let c26 : Index := 26#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v355 : Index := Scalar.indexCast v61
  ![26, v355.toNat]
def k0_off35 (k0_t1 : Fin k0_t1_loop.trips) : Fin 2 → Nat :=
  let c27 : Index := 27#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v366 : Index := Scalar.indexCast v61
  ![27, v366.toNat]
def k0_off36 (k0_t1 : Fin k0_t1_loop.trips) : Fin 2 → Nat :=
  let c28 : Index := 28#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v377 : Index := Scalar.indexCast v61
  ![28, v377.toNat]
def k0_off37 (k0_t1 : Fin k0_t1_loop.trips) : Fin 2 → Nat :=
  let c29 : Index := 29#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v388 : Index := Scalar.indexCast v61
  ![29, v388.toNat]
def k0_off38 (k0_t1 : Fin k0_t1_loop.trips) : Fin 2 → Nat :=
  let c30 : Index := 30#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v399 : Index := Scalar.indexCast v61
  ![30, v399.toNat]
def k0_off39 (k0_t1 : Fin k0_t1_loop.trips) : Fin 2 → Nat :=
  let c31 : Index := 31#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v410 : Index := Scalar.indexCast v61
  ![31, v410.toNat]
def k0_off40 (k0_t1 : Fin k0_t1_loop.trips) : Fin 2 → Nat :=
  let c32 : Index := 32#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v421 : Index := Scalar.indexCast v61
  ![32, v421.toNat]
def k0_off41 (k0_t1 : Fin k0_t1_loop.trips) : Fin 2 → Nat :=
  let c33 : Index := 33#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v432 : Index := Scalar.indexCast v61
  ![33, v432.toNat]
def k0_off42 (k0_t1 : Fin k0_t1_loop.trips) : Fin 2 → Nat :=
  let c34 : Index := 34#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v443 : Index := Scalar.indexCast v61
  ![34, v443.toNat]
def k0_off43 (k0_t1 : Fin k0_t1_loop.trips) : Fin 2 → Nat :=
  let c35 : Index := 35#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v454 : Index := Scalar.indexCast v61
  ![35, v454.toNat]
def k0_off44 (k0_t1 : Fin k0_t1_loop.trips) : Fin 2 → Nat :=
  let c36 : Index := 36#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v465 : Index := Scalar.indexCast v61
  ![36, v465.toNat]
def k0_off45 (k0_t1 : Fin k0_t1_loop.trips) : Fin 2 → Nat :=
  let c37 : Index := 37#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v476 : Index := Scalar.indexCast v61
  ![37, v476.toNat]
def k0_off46 (k0_t1 : Fin k0_t1_loop.trips) : Fin 2 → Nat :=
  let c38 : Index := 38#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v487 : Index := Scalar.indexCast v61
  ![38, v487.toNat]
def k0_off47 (k0_t1 : Fin k0_t1_loop.trips) : Fin 2 → Nat :=
  let c39 : Index := 39#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v498 : Index := Scalar.indexCast v61
  ![39, v498.toNat]
def k0_off48 (k0_t1 : Fin k0_t1_loop.trips) : Fin 2 → Nat :=
  let c40 : Index := 40#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v509 : Index := Scalar.indexCast v61
  ![40, v509.toNat]
def k0_off49 (k0_t1 : Fin k0_t1_loop.trips) : Fin 2 → Nat :=
  let c41 : Index := 41#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v520 : Index := Scalar.indexCast v61
  ![41, v520.toNat]
def k0_off50 (k0_t1 : Fin k0_t1_loop.trips) : Fin 2 → Nat :=
  let c42 : Index := 42#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v531 : Index := Scalar.indexCast v61
  ![42, v531.toNat]
def k0_off51 (k0_t1 : Fin k0_t1_loop.trips) : Fin 2 → Nat :=
  let c43 : Index := 43#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v542 : Index := Scalar.indexCast v61
  ![43, v542.toNat]
def k0_off52 (k0_t1 : Fin k0_t1_loop.trips) : Fin 2 → Nat :=
  let c44 : Index := 44#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v553 : Index := Scalar.indexCast v61
  ![44, v553.toNat]
def k0_off53 (k0_t1 : Fin k0_t1_loop.trips) : Fin 2 → Nat :=
  let c45 : Index := 45#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v564 : Index := Scalar.indexCast v61
  ![45, v564.toNat]
def k0_off54 (k0_t1 : Fin k0_t1_loop.trips) : Fin 2 → Nat :=
  let c46 : Index := 46#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v575 : Index := Scalar.indexCast v61
  ![46, v575.toNat]
def k0_off55 (k0_t1 : Fin k0_t1_loop.trips) : Fin 2 → Nat :=
  let c47 : Index := 47#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v586 : Index := Scalar.indexCast v61
  ![47, v586.toNat]
def k0_off56 (k0_t1 : Fin k0_t1_loop.trips) : Fin 2 → Nat :=
  let c48 : Index := 48#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v597 : Index := Scalar.indexCast v61
  ![48, v597.toNat]
def k0_off57 (k0_t1 : Fin k0_t1_loop.trips) : Fin 2 → Nat :=
  let c0_131 : Index := 0#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v603 : Index := Scalar.indexCast v61
  ![0, v603.toNat]
def k0_off58 (k0_t1 : Fin k0_t1_loop.trips) (k0_t2 : Fin k0_t2_loop.trips) : Fin 3 → Nat :=
  let c0_i32_30 : BitVec 32 := 0#32
  let c1_i32_31 : BitVec 32 := 1#32
  let arg12 : BitVec 32 := Scf.iv c0_i32_30 c1_i32_31 k0_t2
  let v613 : Index := Scalar.indexCast arg12
  let c0_133 : Index := 0#32
  let c0_i32_5 : BitVec 32 := 0#32
  let c1_i32 : BitVec 32 := 1#32
  let arg11 : BitVec 32 := Scf.iv c0_i32_5 c1_i32 k0_t1
  let c128_i32 : BitVec 32 := 128#32
  let v60 : BitVec 32 := Scalar.muli arg11 c128_i32
  let v61 : BitVec 32 := v60
  let v614 : Index := Scalar.indexCast v61
  ![v613.toNat, 0, v614.toNat]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x14x16x512 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S49x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x224x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x224 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvReferenceIdeal.lean ====
abbrev S128x14x16x512 : Shape := ⟨4, ![128, 14, 16, 512]⟩
abbrev S_ : Shape := ⟨0, ![]⟩
abbrev S7x7x512 : Shape := ⟨3, ![7, 7, 512]⟩
abbrev S512 : Shape := ⟨1, ![512]⟩
abbrev S128x20x22x512 : Shape := ⟨4, ![128, 20, 22, 512]⟩
abbrev S1x1x512 : Shape := ⟨3, ![1, 1, 512]⟩
abbrev S1x1x1x512 : Shape := ⟨4, ![1, 1, 1, 512]⟩
abbrev S128x14x16 : Shape := ⟨3, ![128, 14, 16]⟩
abbrev S128x14x16x1 : Shape := ⟨4, ![128, 14, 16, 1]⟩
abbrev S128x224x512 : Shape := ⟨3, ![128, 224, 512]⟩
abbrev S128x1x224 : Shape := ⟨3, ![128, 1, 224]⟩

abbrev nBuf : Space → Nat
  | .hbm => 422
  | .vmem => 0
  | .smem => 0
  | _ => 0

abbrev hbmTy0_0 (i : Nat) : BufTy := match i % 128 with
  | 0 => ⟨S128x14x16x512, .i8⟩
  | 1 => ⟨S_, .f32⟩
  | 2 => ⟨S7x7x512, .i8⟩
  | 3 => ⟨S512, .f32⟩
  | 4 => ⟨S512, .f32⟩
  | 5 => ⟨S512, .f32⟩
  | 6 => ⟨S512, .f32⟩
  | 7 => ⟨S128x14x16x512, .i32⟩
  | 8 => ⟨S_, .i32⟩
  | 9 => ⟨S_, .i32⟩
  | 10 => ⟨S128x20x22x512, .i32⟩
  | 11 => ⟨S7x7x512, .i32⟩
  | 12 => ⟨S_, .i32⟩
  | 13 => ⟨S128x14x16x512, .i32⟩
  | 14 => ⟨S128x14x16x512, .i32⟩
  | 15 => ⟨S1x1x512, .i32⟩
  | 16 => ⟨S512, .i32⟩
  | 17 => ⟨S1x1x1x512, .i32⟩
  | 18 => ⟨S128x14x16x512, .i32⟩
  | 19 => ⟨S128x14x16x512, .i32⟩
  | 20 => ⟨S128x14x16x512, .i32⟩
  | 21 => ⟨S128x14x16x512, .i32⟩
  | 22 => ⟨S1x1x512, .i32⟩
  | 23 => ⟨S512, .i32⟩
  | 24 => ⟨S1x1x1x512, .i32⟩
  | 25 => ⟨S128x14x16x512, .i32⟩
  | 26 => ⟨S128x14x16x512, .i32⟩
  | 27 => ⟨S128x14x16x512, .i32⟩
  | 28 => ⟨S128x14x16x512, .i32⟩
  | 29 => ⟨S1x1x512, .i32⟩
  | 30 => ⟨S512, .i32⟩
  | 31 => ⟨S1x1x1x512, .i32⟩
  | 32 => ⟨S128x14x16x512, .i32⟩
  | 33 => ⟨S128x14x16x512, .i32⟩
  | 34 => ⟨S128x14x16x512, .i32⟩
  | 35 => ⟨S128x14x16x512, .i32⟩
  | 36 => ⟨S1x1x512, .i32⟩
  | 37 => ⟨S512, .i32⟩
  | 38 => ⟨S1x1x1x512, .i32⟩
  | 39 => ⟨S128x14x16x512, .i32⟩
  | 40 => ⟨S128x14x16x512, .i32⟩
  | 41 => ⟨S128x14x16x512, .i32⟩
  | 42 => ⟨S128x14x16x512, .i32⟩
  | 43 => ⟨S1x1x512, .i32⟩
  | 44 => ⟨S512, .i32⟩
  | 45 => ⟨S1x1x1x512, .i32⟩
  | 46 => ⟨S128x14x16x512, .i32⟩
  | 47 => ⟨S128x14x16x512, .i32⟩
  | 48 => ⟨S128x14x16x512, .i32⟩
  | 49 => ⟨S128x14x16x512, .i32⟩
  | 50 => ⟨S1x1x512, .i32⟩
  | 51 => ⟨S512, .i32⟩
  | 52 => ⟨S1x1x1x512, .i32⟩
  | 53 => ⟨S128x14x16x512, .i32⟩
  | 54 => ⟨S128x14x16x512, .i32⟩
  | 55 => ⟨S128x14x16x512, .i32⟩
  | 56 => ⟨S128x14x16x512, .i32⟩
  | 57 => ⟨S1x1x512, .i32⟩
  | 58 => ⟨S512, .i32⟩
  | 59 => ⟨S1x1x1x512, .i32⟩
  | 60 => ⟨S128x14x16x512, .i32⟩
  | 61 => ⟨S128x14x16x512, .i32⟩
  | 62 => ⟨S128x14x16x512, .i32⟩
  | 63 => ⟨S128x14x16x512, .i32⟩
  | 64 => ⟨S1x1x512, .i32⟩
  | 65 => ⟨S512, .i32⟩
  | 66 => ⟨S1x1x1x512, .i32⟩
  | 67 => ⟨S128x14x16x512, .i32⟩
  | 68 => ⟨S128x14x16x512, .i32⟩
  | 69 => ⟨S128x14x16x512, .i32⟩
  | 70 => ⟨S128x14x16x512, .i32⟩
  | 71 => ⟨S1x1x512, .i32⟩
  | 72 => ⟨S512, .i32⟩
  | 73 => ⟨S1x1x1x512, .i32⟩
  | 74 => ⟨S128x14x16x512, .i32⟩
  | 75 => ⟨S128x14x16x512, .i32⟩
  | 76 => ⟨S128x14x16x512, .i32⟩
  | 77 => ⟨S128x14x16x512, .i32⟩
  | 78 => ⟨S1x1x512, .i32⟩
  | 79 => ⟨S512, .i32⟩
  | 80 => ⟨S1x1x1x512, .i32⟩
  | 81 => ⟨S128x14x16x512, .i32⟩
  | 82 => ⟨S128x14x16x512, .i32⟩
  | 83 => ⟨S128x14x16x512, .i32⟩
  | 84 => ⟨S128x14x16x512, .i32⟩
  | 85 => ⟨S1x1x512, .i32⟩
  | 86 => ⟨S512, .i32⟩
  | 87 => ⟨S1x1x1x512, .i32⟩
  | 88 => ⟨S128x14x16x512, .i32⟩
  | 89 => ⟨S128x14x16x512, .i32⟩
  | 90 => ⟨S128x14x16x512, .i32⟩
  | 91 => ⟨S128x14x16x512, .i32⟩
  | 92 => ⟨S1x1x512, .i32⟩
  | 93 => ⟨S512, .i32⟩
  | 94 => ⟨S1x1x1x512, .i32⟩
  | 95 => ⟨S128x14x16x512, .i32⟩
  | 96 => ⟨S128x14x16x512, .i32⟩
  | 97 => ⟨S128x14x16x512, .i32⟩
  | 98 => ⟨S128x14x16x512, .i32⟩
  | 99 => ⟨S1x1x512, .i32⟩
  | 100 => ⟨S512, .i32⟩
  | 101 => ⟨S1x1x1x512, .i32⟩
  | 102 => ⟨S128x14x16x512, .i32⟩
  | 103 => ⟨S128x14x16x512, .i32⟩
  | 104 => ⟨S128x14x16x512, .i32⟩
  | 105 => ⟨S128x14x16x512, .i32⟩
  | 106 => ⟨S1x1x512, .i32⟩
  | 107 => ⟨S512, .i32⟩
  | 108 => ⟨S1x1x1x512, .i32⟩
  | 109 => ⟨S128x14x16x512, .i32⟩
  | 110 => ⟨S128x14x16x512, .i32⟩
  | 111 => ⟨S128x14x16x512, .i32⟩
  | 112 => ⟨S128x14x16x512, .i32⟩
  | 113 => ⟨S1x1x512, .i32⟩
  | 114 => ⟨S512, .i32⟩
  | 115 => ⟨S1x1x1x512, .i32⟩
  | 116 => ⟨S128x14x16x512, .i32⟩
  | 117 => ⟨S128x14x16x512, .i32⟩
  | 118 => ⟨S128x14x16x512, .i32⟩
  | 119 => ⟨S128x14x16x512, .i32⟩
  | 120 => ⟨S1x1x512, .i32⟩
  | 121 => ⟨S512, .i32⟩
  | 122 => ⟨S1x1x1x512, .i32⟩
  | 123 => ⟨S128x14x16x512, .i32⟩
  | 124 => ⟨S128x14x16x512, .i32⟩
  | 125 => ⟨S128x14x16x512, .i32⟩
  | 126 => ⟨S128x14x16x512, .i32⟩
  | 127 => ⟨S1x1x512, .i32⟩
  | _ => ⟨S128x14x16x512, .i8⟩

abbrev hbmTy0_1 (i : Nat) : BufTy := match i % 128 with
  | 0 => ⟨S512, .i32⟩
  | 1 => ⟨S1x1x1x512, .i32⟩
  | 2 => ⟨S128x14x16x512, .i32⟩
  | 3 => ⟨S128x14x16x512, .i32⟩
  | 4 => ⟨S128x14x16x512, .i32⟩
  | 5 => ⟨S128x14x16x512, .i32⟩
  | 6 => ⟨S1x1x512, .i32⟩
  | 7 => ⟨S512, .i32⟩
  | 8 => ⟨S1x1x1x512, .i32⟩
  | 9 => ⟨S128x14x16x512, .i32⟩
  | 10 => ⟨S128x14x16x512, .i32⟩
  | 11 => ⟨S128x14x16x512, .i32⟩
  | 12 => ⟨S128x14x16x512, .i32⟩
  | 13 => ⟨S1x1x512, .i32⟩
  | 14 => ⟨S512, .i32⟩
  | 15 => ⟨S1x1x1x512, .i32⟩
  | 16 => ⟨S128x14x16x512, .i32⟩
  | 17 => ⟨S128x14x16x512, .i32⟩
  | 18 => ⟨S128x14x16x512, .i32⟩
  | 19 => ⟨S128x14x16x512, .i32⟩
  | 20 => ⟨S1x1x512, .i32⟩
  | 21 => ⟨S512, .i32⟩
  | 22 => ⟨S1x1x1x512, .i32⟩
  | 23 => ⟨S128x14x16x512, .i32⟩
  | 24 => ⟨S128x14x16x512, .i32⟩
  | 25 => ⟨S128x14x16x512, .i32⟩
  | 26 => ⟨S128x14x16x512, .i32⟩
  | 27 => ⟨S1x1x512, .i32⟩
  | 28 => ⟨S512, .i32⟩
  | 29 => ⟨S1x1x1x512, .i32⟩
  | 30 => ⟨S128x14x16x512, .i32⟩
  | 31 => ⟨S128x14x16x512, .i32⟩
  | 32 => ⟨S128x14x16x512, .i32⟩
  | 33 => ⟨S128x14x16x512, .i32⟩
  | 34 => ⟨S1x1x512, .i32⟩
  | 35 => ⟨S512, .i32⟩
  | 36 => ⟨S1x1x1x512, .i32⟩
  | 37 => ⟨S128x14x16x512, .i32⟩
  | 38 => ⟨S128x14x16x512, .i32⟩
  | 39 => ⟨S128x14x16x512, .i32⟩
  | 40 => ⟨S128x14x16x512, .i32⟩
  | 41 => ⟨S1x1x512, .i32⟩
  | 42 => ⟨S512, .i32⟩
  | 43 => ⟨S1x1x1x512, .i32⟩
  | 44 => ⟨S128x14x16x512, .i32⟩
  | 45 => ⟨S128x14x16x512, .i32⟩
  | 46 => ⟨S128x14x16x512, .i32⟩
  | 47 => ⟨S128x14x16x512, .i32⟩
  | 48 => ⟨S1x1x512, .i32⟩
  | 49 => ⟨S512, .i32⟩
  | 50 => ⟨S1x1x1x512, .i32⟩
  | 51 => ⟨S128x14x16x512, .i32⟩
  | 52 => ⟨S128x14x16x512, .i32⟩
  | 53 => ⟨S128x14x16x512, .i32⟩
  | 54 => ⟨S128x14x16x512, .i32⟩
  | 55 => ⟨S1x1x512, .i32⟩
  | 56 => ⟨S512, .i32⟩
  | 57 => ⟨S1x1x1x512, .i32⟩
  | 58 => ⟨S128x14x16x512, .i32⟩
  | 59 => ⟨S128x14x16x512, .i32⟩
  | 60 => ⟨S128x14x16x512, .i32⟩
  | 61 => ⟨S128x14x16x512, .i32⟩
  | 62 => ⟨S1x1x512, .i32⟩
  | 63 => ⟨S512, .i32⟩
  | 64 => ⟨S1x1x1x512, .i32⟩
  | 65 => ⟨S128x14x16x512, .i32⟩
  | 66 => ⟨S128x14x16x512, .i32⟩
  | 67 => ⟨S128x14x16x512, .i32⟩
  | 68 => ⟨S128x14x16x512, .i32⟩
  | 69 => ⟨S1x1x512, .i32⟩
  | 70 => ⟨S512, .i32⟩
  | 71 => ⟨S1x1x1x512, .i32⟩
  | 72 => ⟨S128x14x16x512, .i32⟩
  | 73 => ⟨S128x14x16x512, .i32⟩
  | 74 => ⟨S128x14x16x512, .i32⟩
  | 75 => ⟨S128x14x16x512, .i32⟩
  | 76 => ⟨S1x1x512, .i32⟩
  | 77 => ⟨S512, .i32⟩
  | 78 => ⟨S1x1x1x512, .i32⟩
  | 79 => ⟨S128x14x16x512, .i32⟩
  | 80 => ⟨S128x14x16x512, .i32⟩
  | 81 => ⟨S128x14x16x512, .i32⟩
  | 82 => ⟨S128x14x16x512, .i32⟩
  | 83 => ⟨S1x1x512, .i32⟩
  | 84 => ⟨S512, .i32⟩
  | 85 => ⟨S1x1x1x512, .i32⟩
  | 86 => ⟨S128x14x16x512, .i32⟩
  | 87 => ⟨S128x14x16x512, .i32⟩
  | 88 => ⟨S128x14x16x512, .i32⟩
  | 89 => ⟨S128x14x16x512, .i32⟩
  | 90 => ⟨S1x1x512, .i32⟩
  | 91 => ⟨S512, .i32⟩
  | 92 => ⟨S1x1x1x512, .i32⟩
  | 93 => ⟨S128x14x16x512, .i32⟩
  | 94 => ⟨S128x14x16x512, .i32⟩
  | 95 => ⟨S128x14x16x512, .i32⟩
  | 96 => ⟨S128x14x16x512, .i32⟩
  | 97 => ⟨S1x1x512, .i32⟩
  | 98 => ⟨S512, .i32⟩
  | 99 => ⟨S1x1x1x512, .i32⟩
  | 100 => ⟨S128x14x16x512, .i32⟩
  | 101 => ⟨S128x14x16x512, .i32⟩
  | 102 => ⟨S128x14x16x512, .i32⟩
  | 103 => ⟨S128x14x16x512, .i32⟩
  | 104 => ⟨S1x1x512, .i32⟩
  | 105 => ⟨S512, .i32⟩
  | 106 => ⟨S1x1x1x512, .i32⟩
  | 107 => ⟨S128x14x16x512, .i32⟩
  | 108 => ⟨S128x14x16x512, .i32⟩
  | 109 => ⟨S128x14x16x512, .i32⟩
  | 110 => ⟨S128x14x16x512, .i32⟩
  | 111 => ⟨S1x1x512, .i32⟩
  | 112 => ⟨S512, .i32⟩
  | 113 => ⟨S1x1x1x512, .i32⟩
  | 114 => ⟨S128x14x16x512, .i32⟩
  | 115 => ⟨S128x14x16x512, .i32⟩
  | 116 => ⟨S128x14x16x512, .i32⟩
  | 117 => ⟨S128x14x16x512, .i32⟩
  | 118 => ⟨S1x1x512, .i32⟩
  | 119 => ⟨S512, .i32⟩
  | 120 => ⟨S1x1x1x512, .i32⟩
  | 121 => ⟨S128x14x16x512, .i32⟩
  | 122 => ⟨S128x14x16x512, .i32⟩
  | 123 => ⟨S128x14x16x512, .i32⟩
  | 124 => ⟨S128x14x16x512, .i32⟩
  | 125 => ⟨S1x1x512, .i32⟩
  | 126 => ⟨S512, .i32⟩
  | 127 => ⟨S1x1x1x512, .i32⟩
  | _ => ⟨S128x14x16x512, .i8⟩

abbrev hbmTy0_2 (i : Nat) : BufTy := match i % 128 with
  | 0 => ⟨S128x14x16x512, .i32⟩
  | 1 => ⟨S128x14x16x512, .i32⟩
  | 2 => ⟨S128x14x16x512, .i32⟩
  | 3 => ⟨S128x14x16x512, .i32⟩
  | 4 => ⟨S1x1x512, .i32⟩
  | 5 => ⟨S512, .i32⟩
  | 6 => ⟨S1x1x1x512, .i32⟩
  | 7 => ⟨S128x14x16x512, .i32⟩
  | 8 => ⟨S128x14x16x512, .i32⟩
  | 9 => ⟨S128x14x16x512, .i32⟩
  | 10 => ⟨S128x14x16x512, .i32⟩
  | 11 => ⟨S1x1x512, .i32⟩
  | 12 => ⟨S512, .i32⟩
  | 13 => ⟨S1x1x1x512, .i32⟩
  | 14 => ⟨S128x14x16x512, .i32⟩
  | 15 => ⟨S128x14x16x512, .i32⟩
  | 16 => ⟨S128x14x16x512, .i32⟩
  | 17 => ⟨S128x14x16x512, .i32⟩
  | 18 => ⟨S1x1x512, .i32⟩
  | 19 => ⟨S512, .i32⟩
  | 20 => ⟨S1x1x1x512, .i32⟩
  | 21 => ⟨S128x14x16x512, .i32⟩
  | 22 => ⟨S128x14x16x512, .i32⟩
  | 23 => ⟨S128x14x16x512, .i32⟩
  | 24 => ⟨S128x14x16x512, .i32⟩
  | 25 => ⟨S1x1x512, .i32⟩
  | 26 => ⟨S512, .i32⟩
  | 27 => ⟨S1x1x1x512, .i32⟩
  | 28 => ⟨S128x14x16x512, .i32⟩
  | 29 => ⟨S128x14x16x512, .i32⟩
  | 30 => ⟨S128x14x16x512, .i32⟩
  | 31 => ⟨S128x14x16x512, .i32⟩
  | 32 => ⟨S1x1x512, .i32⟩
  | 33 => ⟨S512, .i32⟩
  | 34 => ⟨S1x1x1x512, .i32⟩
  | 35 => ⟨S128x14x16x512, .i32⟩
  | 36 => ⟨S128x14x16x512, .i32⟩
  | 37 => ⟨S128x14x16x512, .i32⟩
  | 38 => ⟨S128x14x16x512, .i32⟩
  | 39 => ⟨S1x1x512, .i32⟩
  | 40 => ⟨S512, .i32⟩
  | 41 => ⟨S1x1x1x512, .i32⟩
  | 42 => ⟨S128x14x16x512, .i32⟩
  | 43 => ⟨S128x14x16x512, .i32⟩
  | 44 => ⟨S128x14x16x512, .i32⟩
  | 45 => ⟨S128x14x16x512, .i32⟩
  | 46 => ⟨S1x1x512, .i32⟩
  | 47 => ⟨S512, .i32⟩
  | 48 => ⟨S1x1x1x512, .i32⟩
  | 49 => ⟨S128x14x16x512, .i32⟩
  | 50 => ⟨S128x14x16x512, .i32⟩
  | 51 => ⟨S128x14x16x512, .i32⟩
  | 52 => ⟨S128x14x16x512, .i32⟩
  | 53 => ⟨S1x1x512, .i32⟩
  | 54 => ⟨S512, .i32⟩
  | 55 => ⟨S1x1x1x512, .i32⟩
  | 56 => ⟨S128x14x16x512, .i32⟩
  | 57 => ⟨S128x14x16x512, .i32⟩
  | 58 => ⟨S128x14x16x512, .i32⟩
  | 59 => ⟨S128x14x16x512, .i32⟩
  | 60 => ⟨S1x1x512, .i32⟩
  | 61 => ⟨S512, .i32⟩
  | 62 => ⟨S1x1x1x512, .i32⟩
  | 63 => ⟨S128x14x16x512, .i32⟩
  | 64 => ⟨S128x14x16x512, .i32⟩
  | 65 => ⟨S128x14x16x512, .i32⟩
  | 66 => ⟨S128x14x16x512, .i32⟩
  | 67 => ⟨S1x1x512, .i32⟩
  | 68 => ⟨S512, .i32⟩
  | 69 => ⟨S1x1x1x512, .i32⟩
  | 70 => ⟨S128x14x16x512, .i32⟩
  | 71 => ⟨S128x14x16x512, .i32⟩
  | 72 => ⟨S128x14x16x512, .i32⟩
  | 73 => ⟨S128x14x16x512, .i32⟩
  | 74 => ⟨S1x1x512, .i32⟩
  | 75 => ⟨S512, .i32⟩
  | 76 => ⟨S1x1x1x512, .i32⟩
  | 77 => ⟨S128x14x16x512, .i32⟩
  | 78 => ⟨S128x14x16x512, .i32⟩
  | 79 => ⟨S128x14x16x512, .i32⟩
  | 80 => ⟨S128x14x16x512, .i32⟩
  | 81 => ⟨S1x1x512, .i32⟩
  | 82 => ⟨S512, .i32⟩
  | 83 => ⟨S1x1x1x512, .i32⟩
  | 84 => ⟨S128x14x16x512, .i32⟩
  | 85 => ⟨S128x14x16x512, .i32⟩
  | 86 => ⟨S128x14x16x512, .i32⟩
  | 87 => ⟨S128x14x16x512, .i32⟩
  | 88 => ⟨S1x1x512, .i32⟩
  | 89 => ⟨S512, .i32⟩
  | 90 => ⟨S1x1x1x512, .i32⟩
  | 91 => ⟨S128x14x16x512, .i32⟩
  | 92 => ⟨S128x14x16x512, .i32⟩
  | 93 => ⟨S128x14x16x512, .i32⟩
  | 94 => ⟨S128x14x16x512, .i32⟩
  | 95 => ⟨S1x1x512, .i32⟩
  | 96 => ⟨S512, .i32⟩
  | 97 => ⟨S1x1x1x512, .i32⟩
  | 98 => ⟨S128x14x16x512, .i32⟩
  | 99 => ⟨S128x14x16x512, .i32⟩
  | 100 => ⟨S128x14x16x512, .i32⟩
  | 101 => ⟨S128x14x16x512, .f32⟩
  | 102 => ⟨S512, .f32⟩
  | 103 => ⟨S512, .f32⟩
  | 104 => ⟨S1x1x1x512, .f32⟩
  | 105 => ⟨S128x14x16x512, .f32⟩
  | 106 => ⟨S128x14x16x512, .f32⟩
  | 107 => ⟨S1x1x1x512, .f32⟩
  | 108 => ⟨S128x14x16x512, .f32⟩
  | 109 => ⟨S128x14x16x512, .f32⟩
  | 110 => ⟨S_, .f32⟩
  | 111 => ⟨S128x14x16, .f32⟩
  | 112 => ⟨S128x14x16x1, .f32⟩
  | 113 => ⟨S_, .f32⟩
  | 114 => ⟨S128x14x16x1, .f32⟩
  | 115 => ⟨S128x14x16x1, .f32⟩
  | 116 => ⟨S128x14x16x512, .f32⟩
  | 117 => ⟨S128x14x16x512, .f32⟩
  | 118 => ⟨S128x14x16x512, .f32⟩
  | 119 => ⟨S_, .f32⟩
  | 120 => ⟨S128x14x16, .f32⟩
  | 121 => ⟨S128x14x16x1, .f32⟩
  | 122 => ⟨S_, .f32⟩
  | 123 => ⟨S128x14x16x1, .f32⟩
  | 124 => ⟨S128x14x16x1, .f32⟩
  | 125 => ⟨S_, .f32⟩
  | 126 => ⟨S128x14x16x1, .f32⟩
  | 127 => ⟨S128x14x16x1, .f32⟩
  | _ => ⟨S128x14x16x512, .i8⟩

abbrev hbmTy0_3 (i : Nat) : BufTy := match i % 128 with
  | 0 => ⟨S128x14x16x1, .f32⟩
  | 1 => ⟨S128x14x16x512, .f32⟩
  | 2 => ⟨S128x14x16x512, .f32⟩
  | 3 => ⟨S1x1x1x512, .f32⟩
  | 4 => ⟨S128x14x16x512, .f32⟩
  | 5 => ⟨S128x14x16x512, .f32⟩
  | 6 => ⟨S1x1x1x512, .f32⟩
  | 7 => ⟨S128x14x16x512, .f32⟩
  | 8 => ⟨S128x14x16x512, .f32⟩
  | 9 => ⟨S128x14x16x512, .f32⟩
  | 10 => ⟨S_, .f32⟩
  | 11 => ⟨S128x14x16, .f32⟩
  | 12 => ⟨S_, .f32⟩
  | 13 => ⟨S128x14x16, .f32⟩
  | 14 => ⟨S128x14x16, .i1⟩
  | 15 => ⟨S_, .f32⟩
  | 16 => ⟨S128x14x16, .f32⟩
  | 17 => ⟨S128x14x16, .f32⟩
  | 18 => ⟨S_, .f32⟩
  | 19 => ⟨S_, .f32⟩
  | 20 => ⟨S128x14x16, .f32⟩
  | 21 => ⟨S128x14x16, .f32⟩
  | 22 => ⟨S128x14x16x1, .f32⟩
  | 23 => ⟨S128x14x16x512, .f32⟩
  | 24 => ⟨S128x14x16x512, .f32⟩
  | 25 => ⟨S128x14x16x512, .f32⟩
  | 26 => ⟨S_, .f32⟩
  | 27 => ⟨S_, .f32⟩
  | 28 => ⟨S_, .f32⟩
  | 29 => ⟨S128x14x16x512, .f32⟩
  | 30 => ⟨S128x14x16x512, .f32⟩
  | 31 => ⟨S_, .f32⟩
  | 32 => ⟨S128x14x16x512, .f32⟩
  | 33 => ⟨S128x14x16x512, .f32⟩
  | 34 => ⟨S128x14x16x512, .i32⟩
  | 35 => ⟨S128x14x16x512, .i8⟩
  | 36 => ⟨S128x224x512, .i8⟩
  | 37 => ⟨S128x1x224, .f32⟩
  | _ => ⟨S128x14x16x512, .i8⟩

abbrev hbmTy (i : Nat) : BufTy := match i / 128 with
  | 0 => hbmTy0_0 i
  | 1 => hbmTy0_1 i
  | 2 => hbmTy0_2 i
  | 3 => hbmTy0_3 i
  | _ => ⟨S128x14x16x512, .i8⟩

abbrev bufTy : (tb : Table) → Fin (tcTables nBuf tb) → BufTy
  | .hbm, ⟨i, _⟩ => hbmTy i
  | _, _ => ⟨S128x14x16x512, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_v240 : Ref sig .tc := ⟨.hbm, 250, rfl⟩
abbrev main_v241 : Ref sig .tc := ⟨.hbm, 251, rfl⟩
abbrev main_v242 : Ref sig .tc := ⟨.hbm, 252, rfl⟩
abbrev main_v243 : Ref sig .tc := ⟨.hbm, 253, rfl⟩
abbrev main_v244 : Ref sig .tc := ⟨.hbm, 254, rfl⟩
abbrev main_v245 : Ref sig .tc := ⟨.hbm, 255, rfl⟩
abbrev main_v246 : Ref sig .tc := ⟨.hbm, 256, rfl⟩
abbrev main_v247 : Ref sig .tc := ⟨.hbm, 257, rfl⟩
abbrev main_v248 : Ref sig .tc := ⟨.hbm, 258, rfl⟩
abbrev main_v249 : Ref sig .tc := ⟨.hbm, 259, rfl⟩
abbrev main_v250 : Ref sig .tc := ⟨.hbm, 260, rfl⟩
abbrev main_v251 : Ref sig .tc := ⟨.hbm, 261, rfl⟩
abbrev main_v252 : Ref sig .tc := ⟨.hbm, 262, rfl⟩
abbrev main_v253 : Ref sig .tc := ⟨.hbm, 263, rfl⟩
abbrev main_v254 : Ref sig .tc := ⟨.hbm, 264, rfl⟩
abbrev main_v255 : Ref sig .tc := ⟨.hbm, 265, rfl⟩
abbrev main_v256 : Ref sig .tc := ⟨.hbm, 266, rfl⟩
abbrev main_v257 : Ref sig .tc := ⟨.hbm, 267, rfl⟩
abbrev main_v258 : Ref sig .tc := ⟨.hbm, 268, rfl⟩
abbrev main_v259 : Ref sig .tc := ⟨.hbm, 269, rfl⟩
abbrev main_v260 : Ref sig .tc := ⟨.hbm, 270, rfl⟩
abbrev main_v261 : Ref sig .tc := ⟨.hbm, 271, rfl⟩
abbrev main_v262 : Ref sig .tc := ⟨.hbm, 272, rfl⟩
abbrev main_v263 : Ref sig .tc := ⟨.hbm, 273, rfl⟩
abbrev main_v264 : Ref sig .tc := ⟨.hbm, 274, rfl⟩
abbrev main_v265 : Ref sig .tc := ⟨.hbm, 275, rfl⟩
abbrev main_v266 : Ref sig .tc := ⟨.hbm, 276, rfl⟩
abbrev main_v267 : Ref sig .tc := ⟨.hbm, 277, rfl⟩
abbrev main_v268 : Ref sig .tc := ⟨.hbm, 278, rfl⟩
abbrev main_v269 : Ref sig .tc := ⟨.hbm, 279, rfl⟩
abbrev main_v270 : Ref sig .tc := ⟨.hbm, 280, rfl⟩
abbrev main_v271 : Ref sig .tc := ⟨.hbm, 281, rfl⟩
abbrev main_v272 : Ref sig .tc := ⟨.hbm, 282, rfl⟩
abbrev main_v273 : Ref sig .tc := ⟨.hbm, 283, rfl⟩
abbrev main_v274 : Ref sig .tc := ⟨.hbm, 284, rfl⟩
abbrev main_v275 : Ref sig .tc := ⟨.hbm, 285, rfl⟩
abbrev main_v276 : Ref sig .tc := ⟨.hbm, 286, rfl⟩
abbrev main_v277 : Ref sig .tc := ⟨.hbm, 287, rfl⟩
abbrev main_v278 : Ref sig .tc := ⟨.hbm, 288, rfl⟩
abbrev main_v279 : Ref sig .tc := ⟨.hbm, 289, rfl⟩
abbrev main_v280 : Ref sig .tc := ⟨.hbm, 290, rfl⟩
abbrev main_v281 : Ref sig .tc := ⟨.hbm, 291, rfl⟩
abbrev main_v282 : Ref sig .tc := ⟨.hbm, 292, rfl⟩
abbrev main_v283 : Ref sig .tc := ⟨.hbm, 293, rfl⟩
abbrev main_v284 : Ref sig .tc := ⟨.hbm, 294, rfl⟩
abbrev main_v285 : Ref sig .tc := ⟨.hbm, 295, rfl⟩
abbrev main_v286 : Ref sig .tc := ⟨.hbm, 296, rfl⟩
abbrev main_v287 : Ref sig .tc := ⟨.hbm, 297, rfl⟩
abbrev main_v288 : Ref sig .tc := ⟨.hbm, 298, rfl⟩
abbrev main_v289 : Ref sig .tc := ⟨.hbm, 299, rfl⟩
abbrev main_v290 : Ref sig .tc := ⟨.hbm, 300, rfl⟩
abbrev main_v291 : Ref sig .tc := ⟨.hbm, 301, rfl⟩
abbrev main_v292 : Ref sig .tc := ⟨.hbm, 302, rfl⟩
abbrev main_v293 : Ref sig .tc := ⟨.hbm, 303, rfl⟩
abbrev main_v294 : Ref sig .tc := ⟨.hbm, 304, rfl⟩
abbrev main_v295 : Ref sig .tc := ⟨.hbm, 305, rfl⟩
abbrev main_v296 : Ref sig .tc := ⟨.hbm, 306, rfl⟩
abbrev main_v297 : Ref sig .tc := ⟨.hbm, 307, rfl⟩
abbrev main_v298 : Ref sig .tc := ⟨.hbm, 308, rfl⟩
abbrev main_v299 : Ref sig .tc := ⟨.hbm, 309, rfl⟩
abbrev main_v300 : Ref sig .tc := ⟨.hbm, 310, rfl⟩
abbrev main_v301 : Ref sig .tc := ⟨.hbm, 311, rfl⟩
abbrev main_v302 : Ref sig .tc := ⟨.hbm, 312, rfl⟩
abbrev main_v303 : Ref sig .tc := ⟨.hbm, 313, rfl⟩
abbrev main_v304 : Ref sig .tc := ⟨.hbm, 314, rfl⟩
abbrev main_v305 : Ref sig .tc := ⟨.hbm, 315, rfl⟩
abbrev main_v306 : Ref sig .tc := ⟨.hbm, 316, rfl⟩
abbrev main_v307 : Ref sig .tc := ⟨.hbm, 317, rfl⟩
abbrev main_v308 : Ref sig .tc := ⟨.hbm, 318, rfl⟩
abbrev main_v309 : Ref sig .tc := ⟨.hbm, 319, rfl⟩
abbrev main_v310 : Ref sig .tc := ⟨.hbm, 320, rfl⟩
abbrev main_v311 : Ref sig .tc := ⟨.hbm, 321, rfl⟩
abbrev main_v312 : Ref sig .tc := ⟨.hbm, 322, rfl⟩
abbrev main_v313 : Ref sig .tc := ⟨.hbm, 323, rfl⟩
abbrev main_v314 : Ref sig .tc := ⟨.hbm, 324, rfl⟩
abbrev main_v315 : Ref sig .tc := ⟨.hbm, 325, rfl⟩
abbrev main_v316 : Ref sig .tc := ⟨.hbm, 326, rfl⟩
abbrev main_v317 : Ref sig .tc := ⟨.hbm, 327, rfl⟩
abbrev main_v318 : Ref sig .tc := ⟨.hbm, 328, rfl⟩
abbrev main_v319 : Ref sig .tc := ⟨.hbm, 329, rfl⟩
abbrev main_v320 : Ref sig .tc := ⟨.hbm, 330, rfl⟩
abbrev main_v321 : Ref sig .tc := ⟨.hbm, 331, rfl⟩
abbrev main_v322 : Ref sig .tc := ⟨.hbm, 332, rfl⟩
abbrev main_v323 : Ref sig .tc := ⟨.hbm, 333, rfl⟩
abbrev main_v324 : Ref sig .tc := ⟨.hbm, 334, rfl⟩
abbrev main_v325 : Ref sig .tc := ⟨.hbm, 335, rfl⟩
abbrev main_v326 : Ref sig .tc := ⟨.hbm, 336, rfl⟩
abbrev main_v327 : Ref sig .tc := ⟨.hbm, 337, rfl⟩
abbrev main_v328 : Ref sig .tc := ⟨.hbm, 338, rfl⟩
abbrev main_v329 : Ref sig .tc := ⟨.hbm, 339, rfl⟩
abbrev main_v330 : Ref sig .tc := ⟨.hbm, 340, rfl⟩
abbrev main_v331 : Ref sig .tc := ⟨.hbm, 341, rfl⟩
abbrev main_v332 : Ref sig .tc := ⟨.hbm, 342, rfl⟩
abbrev main_v333 : Ref sig .tc := ⟨.hbm, 343, rfl⟩
abbrev main_v334 : Ref sig .tc := ⟨.hbm, 344, rfl⟩
abbrev main_v335 : Ref sig .tc := ⟨.hbm, 345, rfl⟩
abbrev main_v336 : Ref sig .tc := ⟨.hbm, 346, rfl⟩
abbrev main_v337 : Ref sig .tc := ⟨.hbm, 347, rfl⟩
abbrev main_v338 : Ref sig .tc := ⟨.hbm, 348, rfl⟩
abbrev main_v339 : Ref sig .tc := ⟨.hbm, 349, rfl⟩
abbrev main_v340 : Ref sig .tc := ⟨.hbm, 350, rfl⟩
abbrev main_v341 : Ref sig .tc := ⟨.hbm, 351, rfl⟩
abbrev main_v342 : Ref sig .tc := ⟨.hbm, 352, rfl⟩
abbrev main_v343 : Ref sig .tc := ⟨.hbm, 353, rfl⟩
abbrev main_v344 : Ref sig .tc := ⟨.hbm, 354, rfl⟩
abbrev main_v345 : Ref sig .tc := ⟨.hbm, 355, rfl⟩
abbrev main_v346 : Ref sig .tc := ⟨.hbm, 356, rfl⟩
abbrev main_v347 : Ref sig .tc := ⟨.hbm, 357, rfl⟩
abbrev main_v348 : Ref sig .tc := ⟨.hbm, 358, rfl⟩
abbrev main_v349 : Ref sig .tc := ⟨.hbm, 359, rfl⟩
abbrev main_v350 : Ref sig .tc := ⟨.hbm, 360, rfl⟩
abbrev main_v351 : Ref sig .tc := ⟨.hbm, 361, rfl⟩
abbrev main_v352 : Ref sig .tc := ⟨.hbm, 362, rfl⟩
abbrev main_v353 : Ref sig .tc := ⟨.hbm, 363, rfl⟩
abbrev main_v354 : Ref sig .tc := ⟨.hbm, 364, rfl⟩
abbrev main_v355 : Ref sig .tc := ⟨.hbm, 365, rfl⟩
abbrev main_cst : Ref sig .tc := ⟨.hbm, 366, rfl⟩
abbrev main_v356 : Ref sig .tc := ⟨.hbm, 367, rfl⟩
abbrev main_v357 : Ref sig .tc := ⟨.hbm, 368, rfl⟩
abbrev main_cst_1 : Ref sig .tc := ⟨.hbm, 369, rfl⟩
abbrev main_v358 : Ref sig .tc := ⟨.hbm, 370, rfl⟩
abbrev main_v359 : Ref sig .tc := ⟨.hbm, 371, rfl⟩
abbrev main_v360 : Ref sig .tc := ⟨.hbm, 372, rfl⟩
abbrev main_v361 : Ref sig .tc := ⟨.hbm, 373, rfl⟩
abbrev main_v362 : Ref sig .tc := ⟨.hbm, 374, rfl⟩
abbrev main_cst_2 : Ref sig .tc := ⟨.hbm, 375, rfl⟩
abbrev main_v363 : Ref sig .tc := ⟨.hbm, 376, rfl⟩
abbrev main_v364 : Ref sig .tc := ⟨.hbm, 377, rfl⟩
abbrev main_cst_3 : Ref sig .tc := ⟨.hbm, 378, rfl⟩
abbrev main_v365 : Ref sig .tc := ⟨.hbm, 379, rfl⟩
abbrev main_v366 : Ref sig .tc := ⟨.hbm, 380, rfl⟩
abbrev main_cst_4 : Ref sig .tc := ⟨.hbm, 381, rfl⟩
abbrev main_v367 : Ref sig .tc := ⟨.hbm, 382, rfl⟩
abbrev main_v368 : Ref sig .tc := ⟨.hbm, 383, rfl⟩
abbrev main_v369 : Ref sig .tc := ⟨.hbm, 384, rfl⟩
abbrev main_v370 : Ref sig .tc := ⟨.hbm, 385, rfl⟩
abbrev main_v371 : Ref sig .tc := ⟨.hbm, 386, rfl⟩
abbrev main_v372 : Ref sig .tc := ⟨.hbm, 387, rfl⟩
abbrev main_v373 : Ref sig .tc := ⟨.hbm, 388, rfl⟩
abbrev main_v374 : Ref sig .tc := ⟨.hbm, 389, rfl⟩
abbrev main_v375 : Ref sig .tc := ⟨.hbm, 390, rfl⟩
abbrev main_v376 : Ref sig .tc := ⟨.hbm, 391, rfl⟩
abbrev main_v377 : Ref sig .tc := ⟨.hbm, 392, rfl⟩
abbrev main_v378 : Ref sig .tc := ⟨.hbm, 393, rfl⟩
abbrev main_cst_5 : Ref sig .tc := ⟨.hbm, 394, rfl⟩
abbrev main_v379 : Ref sig .tc := ⟨.hbm, 395, rfl⟩
abbrev main_cst_6 : Ref sig .tc := ⟨.hbm, 396, rfl⟩
abbrev main_v380 : Ref sig .tc := ⟨.hbm, 397, rfl⟩
abbrev main_v381 : Ref sig .tc := ⟨.hbm, 398, rfl⟩
abbrev main_cst_7 : Ref sig .tc := ⟨.hbm, 399, rfl⟩
abbrev main_v382 : Ref sig .tc := ⟨.hbm, 400, rfl⟩
abbrev main_v383 : Ref sig .tc := ⟨.hbm, 401, rfl⟩
abbrev main_cst_8 : Ref sig .tc := ⟨.hbm, 402, rfl⟩
abbrev main_call1_v0 : Ref sig .tc := ⟨.hbm, 403, rfl⟩
abbrev main_call1_v1 : Ref sig .tc := ⟨.hbm, 404, rfl⟩
abbrev main_v384 : Ref sig .tc := ⟨.hbm, 405, rfl⟩
abbrev main_v385 : Ref sig .tc := ⟨.hbm, 406, rfl⟩
abbrev main_v386 : Ref sig .tc := ⟨.hbm, 407, rfl⟩
abbrev main_v387 : Ref sig .tc := ⟨.hbm, 408, rfl⟩
abbrev main_v388 : Ref sig .tc := ⟨.hbm, 409, rfl⟩
abbrev main_cst_9 : Ref sig .tc := ⟨.hbm, 410, rfl⟩
abbrev main_cst_10 : Ref sig .tc := ⟨.hbm, 411, rfl⟩
abbrev main_call3_v0 : Ref sig .tc := ⟨.hbm, 412, rfl⟩
abbrev main_call3_v1 : Ref sig .tc := ⟨.hbm, 413, rfl⟩
abbrev main_call3_v2 : Ref sig .tc := ⟨.hbm, 414, rfl⟩
abbrev main_call3_v3 : Ref sig .tc := ⟨.hbm, 415, rfl⟩
abbrev main_call3_v4 : Ref sig .tc := ⟨.hbm, 416, rfl⟩
abbrev main_v389 : Ref sig .tc := ⟨.hbm, 417, rfl⟩
abbrev main_v390 : Ref sig .tc := ⟨.hbm, 418, rfl⟩
abbrev main_v391 : Ref sig .tc := ⟨.hbm, 419, rfl⟩
abbrev main_v392 : Ref sig .tc := ⟨.hbm, 420, rfl⟩
abbrev main_v393 : Ref sig .tc := ⟨.hbm, 421, rfl⟩

abbrev nD : Nat := 1
abbrev τ : Topo := Topo.v7x

variable {F : FTy → Type} [FloatOps F]
-- ==== Kernel.lean ====
abbrev S128x14x16x512 : Shape := ⟨4, ![128, 14, 16, 512]⟩
abbrev S128x14x16 : Shape := ⟨3, ![128, 14, 16]⟩
abbrev S512x2048 : Shape := ⟨2, ![512, 2048]⟩
abbrev S2048 : Shape := ⟨1, ![2048]⟩
abbrev S2048x512 : Shape := ⟨2, ![2048, 512]⟩
abbrev S512 : Shape := ⟨1, ![512]⟩
abbrev S_ : Shape := ⟨0, ![]⟩
abbrev S128x224x512 : Shape := ⟨3, ![128, 224, 512]⟩
abbrev S128x1x224 : Shape := ⟨3, ![128, 1, 224]⟩
abbrev S1x2048 : Shape := ⟨2, ![1, 2048]⟩
abbrev S1x512 : Shape := ⟨2, ![1, 512]⟩
abbrev S1x1 : Shape := ⟨2, ![1, 1]⟩
abbrev S128x1x2048 : Shape := ⟨3, ![128, 1, 2048]⟩
abbrev S128x224x2048 : Shape := ⟨3, ![128, 224, 2048]⟩
abbrev S1x224x512 : Shape := ⟨3, ![1, 224, 512]⟩
abbrev S1x1x224 : Shape := ⟨3, ![1, 1, 224]⟩
abbrev S1x1x2048 : Shape := ⟨3, ![1, 1, 2048]⟩
abbrev S1x224x2048 : Shape := ⟨3, ![1, 224, 2048]⟩
abbrev S224x2048 : Shape := ⟨2, ![224, 2048]⟩
abbrev S224x512 : Shape := ⟨2, ![224, 512]⟩
abbrev S1x224 : Shape := ⟨2, ![1, 224]⟩
abbrev S224x1 : Shape := ⟨2, ![224, 1]⟩
abbrev S512x256 : Shape := ⟨2, ![512, 256]⟩
abbrev S224x256 : Shape := ⟨2, ![224, 256]⟩
abbrev S1x256 : Shape := ⟨2, ![1, 256]⟩
abbrev S256 : Shape := ⟨1, ![256]⟩
abbrev S1 : Shape := ⟨1, ![1]⟩
abbrev S32x2048 : Shape := ⟨2, ![32, 2048]⟩
abbrev S32 : Shape := ⟨1, ![32]⟩
abbrev S32x1 : Shape := ⟨2, ![32, 1]⟩
abbrev S1x32x2048 : Shape := ⟨3, ![1, 32, 2048]⟩
abbrev S1x32 : Shape := ⟨2, ![1, 32]⟩
abbrev S1x1x32 : Shape := ⟨3, ![1, 1, 32]⟩
abbrev S32x512 : Shape := ⟨2, ![32, 512]⟩
abbrev S1x32x512 : Shape := ⟨3, ![1, 32, 512]⟩

abbrev nBuf : Space → Nat
  | .hbm => 27
  | .vmem => 27
  | .smem => 1
  | _ => 0

abbrev bufTy : (tb : Table) → Fin (tcTables nBuf tb) → BufTy
  | .hbm, ⟨0, _⟩ => ⟨S128x14x16x512, .i8⟩
  | .hbm, ⟨1, _⟩ => ⟨S128x14x16, .f32⟩
  | .hbm, ⟨2, _⟩ => ⟨S128x14x16x512, .bf16⟩
  | .hbm, ⟨3, _⟩ => ⟨S512x2048, .i8⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048x512, .i8⟩
  | .hbm, ⟨9, _⟩ => ⟨S512, .f32⟩
  | .hbm, ⟨10, _⟩ => ⟨S512, .f32⟩
  | .hbm, ⟨11, _⟩ => ⟨S_, .f32⟩
  | .hbm, ⟨12, _⟩ => ⟨S128x224x512, .i8⟩
  | .hbm, ⟨13, _⟩ => ⟨S128x1x224, .f32⟩
  | .hbm, ⟨14, _⟩ => ⟨S128x224x512, .bf16⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S1x512, .f32⟩
  | .hbm, ⟨20, _⟩ => ⟨S1x512, .f32⟩
  | .hbm, ⟨21, _⟩ => ⟨S1x1, .f32⟩
  | .hbm, ⟨22, _⟩ => ⟨S128x224x512, .bf16⟩
  | .hbm, ⟨23, _⟩ => ⟨S128x224x512, .i8⟩
  | .hbm, ⟨24, _⟩ => ⟨S128x1x2048, .f32⟩
  | .hbm, ⟨25, _⟩ => ⟨S128x224x2048, .i8⟩
  | .hbm, ⟨26, _⟩ => ⟨S128x1x224, .f32⟩
  | .local _ .vmem, ⟨0, _⟩ => ⟨S1x224x512, .i8⟩
  | .local _ .vmem, ⟨1, _⟩ => ⟨S1x224x512, .i8⟩
  | .local _ .vmem, ⟨2, _⟩ => ⟨S1x1x224, .f32⟩
  | .local _ .vmem, ⟨3, _⟩ => ⟨S1x1x224, .f32⟩
  | .local _ .vmem, ⟨4, _⟩ => ⟨S1x224x512, .bf16⟩
  | .local _ .vmem, ⟨5, _⟩ => ⟨S1x224x512, .bf16⟩
  | .local _ .vmem, ⟨6, _⟩ => ⟨S512x2048, .i8⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S2048x512, .i8⟩
  | .local _ .vmem, ⟨12, _⟩ => ⟨S1x512, .f32⟩
  | .local _ .vmem, ⟨13, _⟩ => ⟨S1x512, .f32⟩
  | .local _ .vmem, ⟨14, _⟩ => ⟨S1x224x512, .bf16⟩
  | .local _ .vmem, ⟨15, _⟩ => ⟨S1x224x512, .bf16⟩
  | .local _ .vmem, ⟨16, _⟩ => ⟨S1x224x512, .i8⟩
  | .local _ .vmem, ⟨17, _⟩ => ⟨S1x224x512, .i8⟩
  | .local _ .vmem, ⟨18, _⟩ => ⟨S1x1x2048, .f32⟩
  | .local _ .vmem, ⟨19, _⟩ => ⟨S1x1x2048, .f32⟩
  | .local _ .vmem, ⟨20, _⟩ => ⟨S1x224x2048, .i8⟩
  | .local _ .vmem, ⟨21, _⟩ => ⟨S1x224x2048, .i8⟩
  | .local _ .vmem, ⟨22, _⟩ => ⟨S1x1x224, .f32⟩
  | .local _ .vmem, ⟨23, _⟩ => ⟨S1x1x224, .f32⟩
  | .local _ .vmem, ⟨24, _⟩ => ⟨S512x2048, .bf16⟩
  | .local _ .vmem, ⟨25, _⟩ => ⟨S2048x512, .bf16⟩
  | .local _ .vmem, ⟨26, _⟩ => ⟨S224x2048, .f32⟩
  | .local _ .smem, ⟨0, _⟩ => ⟨S1x1, .f32⟩
  | _, _ => ⟨S128x14x16x512, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev main_v10_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_stg11_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x224x512 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x224x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x512 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .smem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x224x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x224x512 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x224x2048 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x224 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== KernelIdeal.lean ====
variable {F : FTy → Type} [FloatOps F] [Named F]
def κ : String → Option EReal := fun
  | "inv_sqrt2" => some (((Real.sqrt 2)⁻¹ : ℝ) : EReal)
  | _ => none
-- ==== ReferenceIdeal.lean ====
abbrev S128x14x16x512 : Shape := ⟨4, ![128, 14, 16, 512]⟩
abbrev S128x14x16 : Shape := ⟨3, ![128, 14, 16]⟩
abbrev S512x2048 : Shape := ⟨2, ![512, 2048]⟩
abbrev S2048 : Shape := ⟨1, ![2048]⟩
abbrev S2048x512 : Shape := ⟨2, ![2048, 512]⟩
abbrev S512 : Shape := ⟨1, ![512]⟩
abbrev S_ : Shape := ⟨0, ![]⟩
abbrev S128x14x16x2048 : Shape := ⟨4, ![128, 14, 16, 2048]⟩
abbrev S128x14x16x1 : Shape := ⟨4, ![128, 14, 16, 1]⟩
abbrev S1x1x1x2048 : Shape := ⟨4, ![1, 1, 1, 2048]⟩
abbrev S128x2048 : Shape := ⟨2, ![128, 2048]⟩
abbrev S128 : Shape := ⟨1, ![128]⟩
abbrev S128x1 : Shape := ⟨2, ![128, 1]⟩
abbrev S128x1x1x2048 : Shape := ⟨4, ![128, 1, 1, 2048]⟩
abbrev S1x1x1x512 : Shape := ⟨4, ![1, 1, 1, 512]⟩
abbrev S128x224x512 : Shape := ⟨3, ![128, 224, 512]⟩
abbrev S128x1x2048 : Shape := ⟨3, ![128, 1, 2048]⟩
abbrev S128x224x2048 : Shape := ⟨3, ![128, 224, 2048]⟩
abbrev S128x1x224 : Shape := ⟨3, ![128, 1, 224]⟩

abbrev nBuf : Space → Nat
  | .hbm => 123
  | .vmem => 0
  | .smem => 0
  | _ => 0

abbrev bufTy : (tb : Table) → Fin (tcTables nBuf tb) → BufTy
  | .hbm, ⟨0, _⟩ => ⟨S128x14x16x512, .i8⟩
  | .hbm, ⟨1, _⟩ => ⟨S128x14x16, .f32⟩
  | .hbm, ⟨2, _⟩ => ⟨S128x14x16x512, .bf16⟩
  | .hbm, ⟨3, _⟩ => ⟨S512x2048, .i8⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048x512, .i8⟩
  | .hbm, ⟨9, _⟩ => ⟨S512, .f32⟩
  | .hbm, ⟨10, _⟩ => ⟨S512, .f32⟩
  | .hbm, ⟨11, _⟩ => ⟨S_, .f32⟩
  | .hbm, ⟨12, _⟩ => ⟨S128x14x16x512, .i32⟩
  | .hbm, ⟨13, _⟩ => ⟨S128x14x16x512, .bf16⟩
  | .hbm, ⟨14, _⟩ => ⟨S512x2048, .i32⟩
  | .hbm, ⟨15, _⟩ => ⟨S512x2048, .bf16⟩
  | .hbm, ⟨16, _⟩ => ⟨S128x14x16x2048, .f32⟩
  | .hbm, ⟨17, _⟩ => ⟨S128x14x16x1, .f32⟩
  | .hbm, ⟨18, _⟩ => ⟨S128x14x16x2048, .f32⟩
  | .hbm, ⟨19, _⟩ => ⟨S128x14x16x2048, .f32⟩
  | .hbm, ⟨20, _⟩ => ⟨S1x1x1x2048, .f32⟩
  | .hbm, ⟨21, _⟩ => ⟨S128x14x16x2048, .f32⟩
  | .hbm, ⟨22, _⟩ => ⟨S128x14x16x2048, .f32⟩
  | .hbm, ⟨23, _⟩ => ⟨S1x1x1x2048, .f32⟩
  | .hbm, ⟨24, _⟩ => ⟨S128x14x16x2048, .f32⟩
  | .hbm, ⟨25, _⟩ => ⟨S128x14x16x2048, .f32⟩
  | .hbm, ⟨26, _⟩ => ⟨S_, .f32⟩
  | .hbm, ⟨27, _⟩ => ⟨S128x14x16x2048, .f32⟩
  | .hbm, ⟨28, _⟩ => ⟨S128x14x16x2048, .f32⟩
  | .hbm, ⟨29, _⟩ => ⟨S128x14x16x2048, .f32⟩
  | .hbm, ⟨30, _⟩ => ⟨S_, .f32⟩
  | .hbm, ⟨31, _⟩ => ⟨S_, .f32⟩
  | .hbm, ⟨32, _⟩ => ⟨S128x14x16x2048, .f32⟩
  | .hbm, ⟨33, _⟩ => ⟨S128x14x16x2048, .f32⟩
  | .hbm, ⟨34, _⟩ => ⟨S128x14x16x2048, .f32⟩
  | .hbm, ⟨35, _⟩ => ⟨S128x14x16x2048, .f32⟩
  | .hbm, ⟨36, _⟩ => ⟨S128x14x16x2048, .f32⟩
  | .hbm, ⟨37, _⟩ => ⟨S_, .f32⟩
  | .hbm, ⟨38, _⟩ => ⟨S128x2048, .f32⟩
  | .hbm, ⟨39, _⟩ => ⟨S128x2048, .f32⟩
  | .hbm, ⟨40, _⟩ => ⟨S_, .f32⟩
  | .hbm, ⟨41, _⟩ => ⟨S128, .f32⟩
  | .hbm, ⟨42, _⟩ => ⟨S128x1, .f32⟩
  | .hbm, ⟨43, _⟩ => ⟨S_, .f32⟩
  | .hbm, ⟨44, _⟩ => ⟨S128x1, .f32⟩
  | .hbm, ⟨45, _⟩ => ⟨S128x1, .f32⟩
  | .hbm, ⟨46, _⟩ => ⟨S_, .f32⟩
  | .hbm, ⟨47, _⟩ => ⟨S128x1, .f32⟩
  | .hbm, ⟨48, _⟩ => ⟨S128x1, .f32⟩
  | .hbm, ⟨49, _⟩ => ⟨S128x2048, .f32⟩
  | .hbm, ⟨50, _⟩ => ⟨S128x2048, .f32⟩
  | .hbm, ⟨51, _⟩ => ⟨S128x1x1x2048, .f32⟩
  | .hbm, ⟨52, _⟩ => ⟨S128x14x16x2048, .f32⟩
  | .hbm, ⟨53, _⟩ => ⟨S128x14x16x2048, .f32⟩
  | .hbm, ⟨54, _⟩ => ⟨S1x1x1x2048, .f32⟩
  | .hbm, ⟨55, _⟩ => ⟨S128x14x16x2048, .f32⟩
  | .hbm, ⟨56, _⟩ => ⟨S128x14x16x2048, .f32⟩
  | .hbm, ⟨57, _⟩ => ⟨S1x1x1x2048, .f32⟩
  | .hbm, ⟨58, _⟩ => ⟨S128x14x16x2048, .f32⟩
  | .hbm, ⟨59, _⟩ => ⟨S128x14x16x2048, .f32⟩
  | .hbm, ⟨60, _⟩ => ⟨S128x14x16x2048, .f32⟩
  | .hbm, ⟨61, _⟩ => ⟨S128x14x16x2048, .f32⟩
  | .hbm, ⟨62, _⟩ => ⟨S_, .f32⟩
  | .hbm, ⟨63, _⟩ => ⟨S128x14x16, .f32⟩
  | .hbm, ⟨64, _⟩ => ⟨S_, .f32⟩
  | .hbm, ⟨65, _⟩ => ⟨S128x14x16, .f32⟩
  | .hbm, ⟨66, _⟩ => ⟨S128x14x16, .i1⟩
  | .hbm, ⟨67, _⟩ => ⟨S_, .f32⟩
  | .hbm, ⟨68, _⟩ => ⟨S128x14x16, .f32⟩
  | .hbm, ⟨69, _⟩ => ⟨S128x14x16, .f32⟩
  | .hbm, ⟨70, _⟩ => ⟨S_, .f32⟩
  | .hbm, ⟨71, _⟩ => ⟨S_, .f32⟩
  | .hbm, ⟨72, _⟩ => ⟨S128x14x16, .f32⟩
  | .hbm, ⟨73, _⟩ => ⟨S128x14x16, .f32⟩
  | .hbm, ⟨74, _⟩ => ⟨S128x14x16x1, .f32⟩
  | .hbm, ⟨75, _⟩ => ⟨S128x14x16x2048, .f32⟩
  | .hbm, ⟨76, _⟩ => ⟨S128x14x16x2048, .f32⟩
  | .hbm, ⟨77, _⟩ => ⟨S128x14x16x2048, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S128x14x16x2048, .f32⟩
  | .hbm, ⟨82, _⟩ => ⟨S128x14x16x2048, .f32⟩
  | .hbm, ⟨83, _⟩ => ⟨S_, .f32⟩
  | .hbm, ⟨84, _⟩ => ⟨S128x14x16x2048, .f32⟩
  | .hbm, ⟨85, _⟩ => ⟨S128x14x16x2048, .f32⟩
  | .hbm, ⟨86, _⟩ => ⟨S128x14x16x2048, .i32⟩
  | .hbm, ⟨87, _⟩ => ⟨S128x14x16x2048, .i8⟩
  | .hbm, ⟨88, _⟩ => ⟨S128x14x16x2048, .i32⟩
  | .hbm, ⟨89, _⟩ => ⟨S128x14x16x2048, .bf16⟩
  | .hbm, ⟨90, _⟩ => ⟨S2048x512, .i32⟩
  | .hbm, ⟨91, _⟩ => ⟨S2048x512, .bf16⟩
  | .hbm, ⟨92, _⟩ => ⟨S128x14x16x512, .f32⟩
  | .hbm, ⟨93, _⟩ => ⟨S128x14x16x1, .f32⟩
  | .hbm, ⟨94, _⟩ => ⟨S128x14x16x512, .f32⟩
  | .hbm, ⟨95, _⟩ => ⟨S128x14x16x512, .f32⟩
  | .hbm, ⟨96, _⟩ => ⟨S1x1x1x512, .f32⟩
  | .hbm, ⟨97, _⟩ => ⟨S128x14x16x512, .f32⟩
  | .hbm, ⟨98, _⟩ => ⟨S128x14x16x512, .f32⟩
  | .hbm, ⟨99, _⟩ => ⟨S1x1x1x512, .f32⟩
  | .hbm, ⟨100, _⟩ => ⟨S128x14x16x512, .f32⟩
  | .hbm, ⟨101, _⟩ => ⟨S128x14x16x512, .f32⟩
  | .hbm, ⟨102, _⟩ => ⟨S128x14x16x512, .f32⟩
  | .hbm, ⟨103, _⟩ => ⟨S128x14x16x512, .f32⟩
  | .hbm, ⟨104, _⟩ => ⟨S128x14x16x512, .bf16⟩
  | .hbm, ⟨105, _⟩ => ⟨S128x14x16x512, .f32⟩
  | .hbm, ⟨106, _⟩ => ⟨S128x14x16x512, .f32⟩
  | .hbm, ⟨107, _⟩ => ⟨S128x14x16x512, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S128x14x16x512, .f32⟩
  | .hbm, ⟨112, _⟩ => ⟨S128x14x16x512, .f32⟩
  | .hbm, ⟨113, _⟩ => ⟨S_, .f32⟩
  | .hbm, ⟨114, _⟩ => ⟨S128x14x16x512, .f32⟩
  | .hbm, ⟨115, _⟩ => ⟨S128x14x16x512, .f32⟩
  | .hbm, ⟨116, _⟩ => ⟨S128x14x16x512, .i32⟩
  | .hbm, ⟨117, _⟩ => ⟨S128x14x16x512, .i8⟩
  | .hbm, ⟨118, _⟩ => ⟨S128x224x512, .bf16⟩
  | .hbm, ⟨119, _⟩ => ⟨S128x224x512, .i8⟩
  | .hbm, ⟨120, _⟩ => ⟨S128x1x2048, .f32⟩
  | .hbm, ⟨121, _⟩ => ⟨S128x224x2048, .i8⟩
  | .hbm, ⟨122, _⟩ => ⟨S128x1x224, .f32⟩
  | _, _ => ⟨S128x14x16x512, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_5 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_v48 : Ref sig .tc := ⟨.hbm, 69, rfl⟩
abbrev main_cst_8 : Ref sig .tc := ⟨.hbm, 70, rfl⟩
abbrev main_call0_v0 : Ref sig .tc := ⟨.hbm, 71, rfl⟩
abbrev main_call0_v1 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_9 : Ref sig .tc := ⟨.hbm, 78, rfl⟩
abbrev main_cst_10 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_11 : Ref sig .tc := ⟨.hbm, 108, rfl⟩
abbrev main_cst_12 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩

abbrev nD : Nat := 1
abbrev τ : Topo := Topo.v7x

variable {F : FTy → Type} [FloatOps F]
-- ==== Proof.Alg.lean ====
/- Hand-written, untrusted: THE ALGEBRA between the two spellings of the block, over the extended reals and with no array in
   sight: the exact GELU computed on a pre-scaled argument, the response norm folded into one multiplier, the reciprocal of
   the output scale, and the int8 code of a clipped rounded value. -/
module

public import Idealize.ShloMosaic.PureOps.Ideal.Laws

@[expose] public section

noncomputable section

namespace Cert.Alg

open Idealize.ShloMosaic

/-- The real `1/√2`, as an extended real. -/
def kap : EReal := (((Real.sqrt 2)⁻¹ : ℝ) : EReal)

theorem kap_nonneg : (0 : EReal) ≤ kap := EReal.coe_nonneg.mpr (inv_nonneg.mpr (Real.sqrt_nonneg 2))

theorem kap_ne_top : kap ≠ ⊤ := EReal.coe_ne_top _

/-- `1/√2` squared is one half. -/
theorem kap_mul_kap : kap * kap = ((1 / 2 : ℝ) : EReal) := by
  unfold kap
  rw [← EReal.coe_mul, ← mul_inv, Real.mul_self_sqrt (by norm_num)]
  norm_num

/-- The literal `0.5`. -/
theorem ofBits_half : Ideal.ofBits .f32 0x3F000000#32 = ((1 / 2 : ℝ) : EReal) := by
  simp [Ideal.ofBits, Ideal.ieee]; rw [← EReal.coe_mul]; norm_num

/-- The literal `2.0`. -/
theorem ofBits_two : Ideal.ofBits .f32 0x40000000#32 = ((2 : ℝ) : EReal) := by
  simp [Ideal.ofBits, Ideal.ieee]; rw [← EReal.coe_mul]; norm_num

/-- The literal `1.0`. -/
theorem ofBits_one : Ideal.ofBits .f32 0x3F800000#32 = 1 := by
  simp [Ideal.ofBits, Ideal.ieee]; rw [← EReal.coe_mul]; norm_num

/-- The literal `127.0`. -/
theorem ofBits_qmax : Ideal.ofBits .f32 0x42FE0000#32 = ((127 : ℝ) : EReal) := by
  simp [Ideal.ofBits, Ideal.ieee]; rw [← EReal.coe_mul]; norm_num

/-- The literal `-127.0`. -/
theorem ofBits_neg_qmax : Ideal.ofBits .f32 0xC2FE0000#32 = ((-127 : ℝ) : EReal) := by
  simp [Ideal.ofBits, Ideal.ieee]; rw [← EReal.coe_mul]; norm_num

/-- The literal `2048.0`. -/
theorem ofBits_2048 : Ideal.ofBits .f32 0x45000000#32 = ((2048 : ℝ) : EReal) := by
  simp [Ideal.ofBits, Ideal.ieee]; rw [← EReal.coe_mul]; norm_num

/-- The GELU as the reference writes it: half of `x`, times the complementary error function of `-x / √2`. -/
def gelu (x : EReal) : EReal :=
  Ideal.ofBits .f32 0x3F000000#32 * x * Ideal.erfc (Ideal.div (-x) (Ideal.sqrt (Ideal.ofBits .f32 0x40000000#32)))

/-- The kernel's activation: on the pre-scaled `u`, `u` times one plus its error function. -/
def act (u : EReal) : EReal := u * (Ideal.ofBits .f32 0x3F800000#32 + Ideal.erf u)

/-- Scaling both the weight scale and the bias by `1/√2` scales the affine map by it. -/
theorem affine_scaled (a s b : EReal) : a * (s * kap) + b * kap = (a * s + b) * kap := by
  rw [EReal.right_distrib_of_nonneg_of_ne_top kap_nonneg kap_ne_top, mul_assoc]

/-- The GELU of `x` is the kernel's activation of `x / √2`, divided by `√2`. -/
theorem gelu_eq (x : EReal) : gelu x = act (x * kap) * kap := by
  unfold gelu act
  have hs : Ideal.sqrt (Ideal.ofBits .f32 0x40000000#32) = ((Real.sqrt 2 : ℝ) : EReal) := by
    rw [ofBits_two, Ideal.sqrt_coe, if_neg (by norm_num)]
  have hd : Ideal.div (-x) ((Real.sqrt 2 : ℝ) : EReal) = -(x * kap) := by
    rw [Ideal.div_coe (Real.sqrt_ne_zero'.mpr (by norm_num)), one_div, EReal.neg_mul]; rfl
  rw [hs, hd, Ideal.erfc_neg, ofBits_one, ofBits_half, ← kap_mul_kap]
  ac_rfl

/-- The sum of the squares of the scaled values is half the sum of the squares. -/
theorem sum_sq_scaled {ι : Type} [Fintype ι] (f : ι → EReal) :
    (∑ p, f p * f p) * Ideal.ofBits .f32 0x3F000000#32 = ∑ p, f p * kap * (f p * kap) := by
  rw [ofBits_half]
  have h : ∀ s : Finset ι, (∑ p ∈ s, f p * f p) * ((1 / 2 : ℝ) : EReal) = ∑ p ∈ s, f p * kap * (f p * kap) := by
    intro s
    induction s using Finset.cons_induction with
    | empty => simp
    | cons a s ha ih =>
      rw [Finset.sum_cons, Finset.sum_cons, EReal.right_distrib_of_nonneg_of_ne_top (EReal.coe_nonneg.mpr (by norm_num)) (EReal.coe_ne_top _), ih,
        ← kap_mul_kap]
      congr 1
      ac_rfl
  exact h _

/-- A finite `H` times `m + 1` distributes. -/
theorem mul_add_one (H m : EReal) (ht : H ≠ ⊤) (hb : H ≠ ⊥) : H * (m + 1) = H * m + H := by
  induction H with
  | bot => exact absurd rfl hb
  | top => exact absurd rfl ht
  | coe r =>
    rcases le_total 0 r with h | h
    · rw [EReal.left_distrib_of_nonneg_of_ne_top (EReal.coe_nonneg.mpr h) (EReal.coe_ne_top r), mul_one]
    · have e : ((r : ℝ) : EReal) = -(((-r : ℝ)) : EReal) := by rw [EReal.coe_neg, neg_neg]
      rw [e, EReal.neg_mul, EReal.neg_mul, EReal.left_distrib_of_nonneg_of_ne_top (EReal.coe_nonneg.mpr (by linarith)) (EReal.coe_ne_top _), mul_one,
        EReal.neg_add (.inr (EReal.coe_ne_top _)) (.inr (EReal.coe_ne_bot _)), sub_eq_add_neg]

/-- The response norm and the residual folded into one multiplier: the reference's `γ · (H · n) + β + H` is the kernel's
    `h · ((γ · n + 1) · κ) + β` at `H = h · κ`, when `H` is finite or the norm `n` is zero. -/
theorem norm_folded (h gam n bet : EReal) (hn : (h * kap ≠ ⊤ ∧ h * kap ≠ ⊥) ∨ n = 0) :
    h * ((gam * n + 1) * kap) + bet = gam * (h * kap * n) + bet + h * kap := by
  have e : h * ((gam * n + 1) * kap) = h * kap * (gam * n + 1) := by ac_rfl
  rw [e]
  rcases hn with ⟨ht, hb⟩ | rfl
  · rw [mul_add_one _ _ ht hb]
    have e2 : h * kap * (gam * n) = gam * (h * kap * n) := by ac_rfl
    rw [e2]; ac_rfl
  · simp only [mul_zero, zero_add, mul_one]
    rw [add_comm]

/-- Multiplying by the reciprocal of a nonzero scale divides by it. -/
theorem mul_recip (r s : EReal) (h : s ≠ 0) : r * Ideal.div 1 s = Ideal.div r s := by
  rw [Ideal.div, if_neg h, Ideal.div, if_neg h, one_mul]

/-- The clipped rounding: `x` to the nearest integer, ties to even, then into `[-127, 127]`. -/
def clipRound (x : EReal) : EReal :=
  min (Ideal.ofBits .f32 0x42FE0000#32) (max (Ideal.ofBits .f32 0xC2FE0000#32) (Ideal.liftRound Ideal.roundHalfEven x))

/-- A clipped rounding is an integer of magnitude at most 127. -/
theorem clipRound_int (x : EReal) : ∃ k : ℤ, -127 ≤ k ∧ k ≤ 127 ∧ clipRound x = ((k : ℝ) : EReal) := by
  unfold clipRound
  rw [ofBits_qmax, ofBits_neg_qmax]
  induction x with
  | bot => exact ⟨-127, by norm_num, by norm_num, by
      rw [Ideal.liftRound_bot, max_eq_left bot_le, min_eq_right (EReal.coe_le_coe_iff.mpr (by norm_num))]; norm_num⟩
  | top => exact ⟨127, by norm_num, by norm_num, by
      rw [Ideal.liftRound_top, max_eq_right le_top, min_eq_left le_top]; norm_num⟩
  | coe r =>
    refine ⟨min 127 (max (-127) (Ideal.roundHalfEven r)), le_min (by norm_num) (le_max_left _ _), min_le_left _ _, ?_⟩
    rw [Ideal.liftRound_coe, ← EReal.coe_strictMono.monotone.map_max, ← EReal.coe_strictMono.monotone.map_min]
    push_cast
    rfl

/-- The int8 code of a clipped rounding is the 32-bit code cut to its low byte. -/
theorem code_trunc (x : EReal) : (Ideal.fptosi 32 (clipRound x)).setWidth 8 = Ideal.fptosi 8 (clipRound x) := by
  obtain ⟨k, h1, h2, e⟩ := clipRound_int x
  rw [e]
  have t : ∀ lo hi : ℤ, lo ≤ -127 → 127 ≤ hi → Ideal.toIntClamped lo hi ((k : ℝ) : EReal) = k := by
    intro lo hi hl hh
    rw [Ideal.toIntClamped_coe, Int.floor_intCast, Int.ceil_intCast, ite_self]
    omega
  unfold Ideal.fptosi
  rw [t _ _ (by norm_num) (by norm_num), t _ _ (by norm_num) (by norm_num)]
  have hk : k ∈ Finset.Icc (-127 : ℤ) 127 := Finset.mem_Icc.mpr ⟨h1, h2⟩
  exact (by decide +kernel : ∀ k ∈ Finset.Icc (-127 : ℤ) 127, (BitVec.ofInt 32 k).setWidth 8 = BitVec.ofInt 8 k) k hk

/-- Reading the int8 code of a clipped rounding back as a number gives the clipped rounding. -/
theorem code_value (x : EReal) : (((Ideal.fptosi 8 (clipRound x)).toInt : ℝ) : EReal) = clipRound x := by
  obtain ⟨k, h1, h2, e⟩ := clipRound_int x
  rw [e]
  have t : Ideal.toIntClamped (-(2 ^ (8 - 1) : Nat)) ((2 ^ (8 - 1) : Nat) - 1) ((k : ℝ) : EReal) = k := by
    rw [Ideal.toIntClamped_coe, Int.floor_intCast, Int.ceil_intCast, ite_self]
    norm_num; omega
  unfold Ideal.fptosi
  rw [t]
  have hk : k ∈ Finset.Icc (-127 : ℤ) 127 := Finset.mem_Icc.mpr ⟨h1, h2⟩
  rw [(by decide +kernel : ∀ k ∈ Finset.Icc (-127 : ℤ) 127, (BitVec.ofInt 8 k).toInt = k) k hk]

end Cert.Alg

end
-- ==== Proof.Model.lean ====
/- Hand-written, untrusted: THE MODEL of one image, over plain indices and the extended reals, in the reference's own
   spelling: codes and scales go in; the affine map, GELU, the response norm over the pixels, the row quantiser, the second
   product with its residual, and the output codes come out. Both programs are read down to these functions. The second part
   is the kernel's own spelling (pre-scaled activations, the norm and the residual folded into one multiplier) and its
   equality with the first. -/
module

public import proofs.«01_k».proof.Proof.Alg
public import Idealize.ShloMosaic.Lib.Pointwise.Index

@[expose] public section

noncomputable section

namespace Cert.Model

open Idealize.ShloMosaic Cert.Alg

/-- A code's value. -/
def cv (c : BitVec 8) : EReal := ((c.toInt : ℝ) : EReal)

/-- One image's data: `K` input channels, `N` hidden channels, `C` output channels, `P` pixels. -/
structure Img (P K N C : Type) where
  /-- The activation codes' values. -/
  A : P → K → EReal
  /-- The rows' scales. -/
  s : P → EReal
  /-- The residual input. -/
  X : P → C → EReal
  /-- The first weights' codes. -/
  W1 : K → N → EReal
  /-- Their column scales. -/
  ws1 : N → EReal
  /-- The first bias. -/
  b1 : N → EReal
  /-- The norm's gain. -/
  gam : N → EReal
  /-- The norm's offset. -/
  bet : N → EReal
  /-- The second weights' codes. -/
  W2 : N → C → EReal
  /-- Their column scales. -/
  ws2 : C → EReal
  /-- The second bias. -/
  b2 : C → EReal
  /-- The output codes' scale. -/
  os : EReal

/-- A row's largest magnitude. -/
def amax {N : Type} [Fintype N] (v : N → EReal) : EReal :=
  Finset.univ.fold max (Ideal.ofBits .f32 0xFF800000#32) fun n => FloatOps.absf (F := Ideal) (φ := .f32) (v n)

/-- A row's scale: its largest magnitude over 127, or 1 on a zero row. -/
def rowScale {N : Type} [Fintype N] (v : N → EReal) : EReal :=
  if amax v = 0 then 1 else Ideal.div (amax v) (Ideal.ofBits .f32 0x42FE0000#32)

/-- An element's quantised value. -/
def quant {N : Type} [Fintype N] (v : N → EReal) (n : N) : EReal := clipRound (Ideal.div (v n) (rowScale v))

namespace Img

variable {P K N C : Type} [Fintype P] [Fintype K] [Fintype N] (I : Img P K N C)

/-- The affine map. -/
def lin (p : P) (n : N) : EReal := (∑ k, I.A p k * I.W1 k n) * I.s p * I.ws1 n + I.b1 n

/-- The activation. -/
def H (p : P) (n : N) : EReal := gelu (I.lin p n)

/-- The response of a channel: the root of the sum over the pixels of the squared activations. -/
def gx (n : N) : EReal := Ideal.sqrt (∑ p, I.H p n * I.H p n)

/-- The responses' mean over the channels, plus the small constant. -/
def den : EReal := Ideal.div (∑ n, I.gx n) (Ideal.ofBits .f32 0x45000000#32) + Ideal.ofBits .f32 0x358637BD#32

/-- The normalised response of a channel. -/
def nx (n : N) : EReal := Ideal.div (I.gx n) I.den

/-- The normalised activation: `γ · (H · nx) + β + H`. -/
def G (p : P) (n : N) : EReal := I.gam n * (I.H p n * I.nx n) + I.bet n + I.H p n

/-- The row scales. -/
def S (p : P) : EReal := rowScale (I.G p)

/-- The quantised values. -/
def Q (p : P) (n : N) : EReal := quant (I.G p) n

/-- The residual sum. -/
def R (p : P) (k : C) : EReal := I.X p k + ((∑ n, I.Q p n * I.W2 n k) * I.S p * I.ws2 k + I.b2 k)

/-- The rounded and clipped output, an integer. -/
def O (p : P) (k : C) : EReal := clipRound (Ideal.div (I.R p k) I.os)

end Img

/-! ### The kernel's spelling -/

namespace Img

variable {P K N C : Type} [Fintype P] [Fintype K] [Fintype N] (I : Img P K N C)

/-- The pre-scaled activation, `√2` times the activation. -/
def hp (p : P) (n : N) : EReal := act ((∑ k, I.A p k * I.W1 k n) * I.s p * (I.ws1 n * kap) + I.b1 n * kap)

theorem hp_kap (p : P) (n : N) : I.hp p n * kap = I.H p n := by
  rw [hp, affine_scaled, H, gelu_eq]; rfl

theorem gx_kernel (n : N) : Ideal.sqrt ((∑ p, I.hp p n * I.hp p n) * Ideal.ofBits .f32 0x3F000000#32) = I.gx n := by
  rw [sum_sq_scaled]; simp only [hp_kap]; rfl

theorem sqrt_nonneg {x : EReal} (h : 0 ≤ x) : 0 ≤ Ideal.sqrt x := by
  induction x using EReal.rec with
  | bot => simp at h
  | top => exact le_top
  | coe r =>
    have hr : 0 ≤ r := EReal.coe_nonneg.mp h
    show 0 ≤ (if r < 0 then (⊥ : EReal) else (Real.sqrt r : EReal))
    rw [if_neg (not_lt.mpr hr)]; exact EReal.coe_nonneg.mpr (Real.sqrt_nonneg r)

theorem gx_nonneg (n : N) : 0 ≤ I.gx n := by
  refine sqrt_nonneg (Finset.sum_nonneg fun p _ => ?_)
  rcases le_total 0 (I.H p n) with h | h
  · exact mul_nonneg h h
  · have := mul_nonneg (EReal.neg_nonneg.mpr h) (EReal.neg_nonneg.mpr h)
    rwa [neg_mul_neg] at this

theorem sum_eq_top {ι : Type} [Fintype ι] (f : ι → EReal) (h0 : ∀ i, 0 ≤ f i) (i : ι) (hi : f i = ⊤) : ∑ i, f i = ⊤ :=
  top_le_iff.mp (hi ▸ Finset.single_le_sum (fun j _ => h0 j) (Finset.mem_univ i))

theorem sq_nonneg' (x : EReal) : 0 ≤ x * x := by
  rcases le_total 0 x with h | h
  · exact mul_nonneg h h
  · have := mul_nonneg (EReal.neg_nonneg.mpr h) (EReal.neg_nonneg.mpr h)
    rwa [neg_mul_neg] at this

/-- One infinite activation makes every normalised response zero. -/
theorem nx_zero (p : P) (n₀ : N) (h : I.H p n₀ = ⊤ ∨ I.H p n₀ = ⊥) (n : N) : I.nx n = 0 := by
  have e : I.H p n₀ * I.H p n₀ = ⊤ := by
    rcases h with h | h <;> rw [h]
    · exact EReal.top_mul_top
    · exact EReal.bot_mul_bot
  have e1 : I.gx n₀ = ⊤ := by
    rw [gx, sum_eq_top (fun p => I.H p n₀ * I.H p n₀) (fun p => sq_nonneg' _) p e]; rfl
  have e2 : I.den = ⊤ := by
    rw [den, sum_eq_top I.gx I.gx_nonneg n₀ e1, ofBits_2048]
    have hd : Ideal.div ⊤ ((2048 : ℝ) : EReal) = ⊤ := by
      rw [Ideal.div, if_neg (by exact_mod_cast (by norm_num : (2048 : ℝ) ≠ 0)), ← EReal.coe_inv]
      exact EReal.top_mul_coe_of_pos (by norm_num)
    rw [hd, EReal.top_add_of_ne_bot]
    simp [Ideal.ofBits, Ideal.ieee]
    rw [← EReal.coe_mul]; exact EReal.coe_ne_bot _
  rw [nx, e2, Ideal.div, if_neg (by simp)]
  simp

theorem G_kernel (p : P) (n : N) : I.hp p n * ((I.gam n * I.nx n + 1) * kap) + I.bet n = I.G p n := by
  rw [norm_folded, hp_kap]; · rfl
  rw [hp_kap]
  by_cases ht : I.H p n = ⊤
  · exact .inr (I.nx_zero p n (.inl ht) n)
  by_cases hb : I.H p n = ⊥
  · exact .inr (I.nx_zero p n (.inr hb) n)
  exact .inl ⟨ht, hb⟩

theorem O_kernel (h : I.os ≠ 0) (p : P) (k : C) : clipRound (I.R p k * Ideal.div 1 I.os) = I.O p k := by
  rw [mul_recip _ _ h]; rfl

end Img

/-- Row `p` of a 14-by-16 image. -/
abbrev rowY (p : Fin 224) : Fin 14 := ⟨p.val / 16, by omega⟩
/-- Column `p` of a 14-by-16 image. -/
abbrev rowX (p : Fin 224) : Fin 16 := ⟨p.val % 16, by omega⟩

/-- One image of the batch. -/
abbrev Image := Img (Fin 224) (Fin 512) (Fin 2048) (Fin 512)

/-- Image `i` of the argument arrays. -/
def image (a0 : (⟨4, ![128, 14, 16, 512]⟩ : Shape).Idx → BitVec 8) (a1 : (⟨3, ![128, 14, 16]⟩ : Shape).Idx → EReal)
    (a2 : (⟨4, ![128, 14, 16, 512]⟩ : Shape).Idx → EReal) (a3 : (⟨2, ![512, 2048]⟩ : Shape).Idx → BitVec 8)
    (a4 a5 a6 a7 : (⟨1, ![2048]⟩ : Shape).Idx → EReal) (a8 : (⟨2, ![2048, 512]⟩ : Shape).Idx → BitVec 8)
    (a9 a10 : (⟨1, ![512]⟩ : Shape).Idx → EReal) (a11 : (⟨0, ![]⟩ : Shape).Idx → EReal) (i : Fin 128) : Image where
  A p k := cv (a0 (ix4 i (rowY p) (rowX p) k))
  s p := a1 (ix3 i (rowY p) (rowX p))
  X p k := a2 (ix4 i (rowY p) (rowX p) k)
  W1 k n := cv (a3 (ix2 k n))
  ws1 n := a4 (ix1 n)
  b1 n := a5 (ix1 n)
  gam n := a6 (ix1 n)
  bet n := a7 (ix1 n)
  W2 n k := cv (a8 (ix2 n k))
  ws2 k := a9 (ix1 k)
  b2 k := a10 (ix1 k)
  os := a11 ix0

end Cert.Model

end
-- ==== Proof.Pay.lean ====
/- Hand-written, untrusted: THE KERNEL'S BODY READ AT AN INDEX. Each value the body computes on a block, at an index, as the
   model's function of an image, from hypotheses that say what the loaded pieces hold. The eight column chunks and the seven
   row blocks are one computation each; the later ones are the first by definition. -/
module

public import proofs.«01_k».proof.Proof.Gen.KernelIdeal.Skeleton
public import proofs.«01_k».proof.Proof.Model
public import Idealize.ShloMosaic.Lib.Pointwise.Tactic
public import Idealize.ShloMosaic.Lib.Pipeline.ValueKit

@[expose] public section

set_option maxRecDepth 16384

noncomputable section

namespace Cert.Pay

open Cert.KernelIdeal Cert.KernelIdeal.Gen Idealize.ShloMosaic Idealize.ShloMosaic.TcCoe Idealize.SL.Sem
open Idealize.ShloMosaic.Pointwise Cert.Model Cert.Alg

/-- The named constant's ideal value. -/
theorem named_kap : (Named.named κ "inv_sqrt2" 0x3F3504F3#32 : Ideal .f32) = kap :=
  IdealRules.named_const.ideal_named_scalar _ _ _ _ rfl

/-- The weights' cast keeps the codes' values. -/
theorem pay2_at (w : Vec Ideal S512x2048 .i8) (k : Fin 512) (n : Fin 2048) : k0_pay2 (F := Ideal) w (ix2 k n) = cv (w (ix2 k n)) := by
  unfold k0_pay2; pointwise; rfl

theorem pay3_at (w : Vec Ideal S2048x512 .i8) (n : Fin 2048) (k : Fin 512) : k0_pay3 (F := Ideal) w (ix2 n k) = cv (w (ix2 n k)) := by
  unfold k0_pay3; pointwise; rfl

/-- What the body's whole-block loads hold, for image `I`. -/
structure Holds (I : Image) (x0 : Vec Ideal S1x224x512 .i8) (x1 : Vec Ideal S1x1x224 .f32) (x2 : Vec Ideal S1x224x512 .bf16)
    (w1 : Vec Ideal S512x2048 .bf16) (x4 x5 x6 x7 : Vec Ideal S1x2048 .f32) (w2 : Vec Ideal S2048x512 .bf16)
    (x9 x10 : Vec Ideal S1x512 .f32) (x11 : Vec Ideal S1x1 .f32) : Prop where
  h0 : ∀ p k, cv (x0 (ix3 0 p k)) = I.A p k
  h1 : ∀ p, x1 (ix3 0 0 p) = I.s p
  h2 : ∀ p k, x2 (ix3 0 p k) = I.X p k
  h3 : ∀ k n, w1 (ix2 k n) = I.W1 k n
  h4 : ∀ n, x4 (ix2 0 n) = I.ws1 n
  h5 : ∀ n, x5 (ix2 0 n) = I.b1 n
  h6 : ∀ n, x6 (ix2 0 n) = I.gam n
  h7 : ∀ n, x7 (ix2 0 n) = I.bet n
  h8 : ∀ n k, w2 (ix2 n k) = I.W2 n k
  h9 : ∀ k, x9 (ix2 0 k) = I.ws2 k
  h10 : ∀ k, x10 (ix2 0 k) = I.b2 k
  h11 : x11 (ix2 0 0) = I.os

section Chunk

variable (I : Image) (x0 : Vec Ideal S1x224x512 .i8) (x1 : Vec Ideal S1x1x224 .f32) (c : Fin 8)

/-- Column `j` of chunk `c`. -/
abbrev col (c : Fin 8) (j : Fin 256) : Fin 2048 := ⟨256 * c.val + j.val, by omega⟩

/-- A column chunk of the pre-scaled activation. -/
theorem chunk_at (h0 : ∀ p k, cv (x0 (ix3 0 p k)) = I.A p k) (h1 : ∀ p, x1 (ix3 0 0 p) = I.s p) (w : Vec Ideal S512x256 .bf16)
    (ws b : Vec Ideal S1x256 .f32) (hw : ∀ k j, w (ix2 k j) = I.W1 k (col c j)) (hs : ∀ j, ws (ix2 0 j) = I.ws1 (col c j))
    (hb : ∀ j, b (ix2 0 j) = I.b1 (col c j)) (p : Fin 224) (j : Fin 256) : k0_pay6 (F := Ideal) x0 x1 w ws b (ix2 p j) = I.hp p (col c j) := by
  unfold k0_pay6 k0_pay4 k0_pay5; pointwise
  simp only [named_kap, h1, hw, hs, hb, Img.hp, act, ofBits_one, ← h0]; rfl

/-- A column chunk's sums of squares. -/
theorem chunkSum_at (h0 : ∀ p k, cv (x0 (ix3 0 p k)) = I.A p k) (h1 : ∀ p, x1 (ix3 0 0 p) = I.s p) (w : Vec Ideal S512x256 .bf16)
    (ws b : Vec Ideal S1x256 .f32) (hw : ∀ k j, w (ix2 k j) = I.W1 k (col c j)) (hs : ∀ j, ws (ix2 0 j) = I.ws1 (col c j))
    (hb : ∀ j, b (ix2 0 j) = I.b1 (col c j)) (j : Fin 256) :
    k0_pay8 (F := Ideal) x0 x1 w ws b (ix2 0 j) = ∑ p, I.hp p (col c j) * I.hp p (col c j) := by
  unfold k0_pay8; pointwise
  simp only [chunk_at I x0 x1 c h0 h1 w ws b hw hs hb]

end Chunk

/-- A column's chunk and its place in it. -/
theorem col_cases (P : Fin 2048 → Prop) (h : ∀ c j, P (col c j)) (n : Fin 2048) : P n := by
  have := h ⟨n.val / 256, by omega⟩ ⟨n.val % 256, by omega⟩
  have e : col ⟨n.val / 256, by omega⟩ ⟨n.val % 256, by omega⟩ = n := Fin.ext (by simp only [col]; omega)
  rwa [e] at this

section Norm

variable (I : Image)

/-- The response row, from the eight chunks' sums of squares (the last one computed in place). -/
theorem gx_at (v5 v8 s0 s1 s2 s3 s4 s5 s6 w ws b) (h0 : ∀ j, s0 (ix2 0 j) = ∑ p, I.hp p (col 0 j) * I.hp p (col 0 j))
    (h1 : ∀ j, s1 (ix2 0 j) = ∑ p, I.hp p (col 1 j) * I.hp p (col 1 j)) (h2 : ∀ j, s2 (ix2 0 j) = ∑ p, I.hp p (col 2 j) * I.hp p (col 2 j))
    (h3 : ∀ j, s3 (ix2 0 j) = ∑ p, I.hp p (col 3 j) * I.hp p (col 3 j)) (h4 : ∀ j, s4 (ix2 0 j) = ∑ p, I.hp p (col 4 j) * I.hp p (col 4 j))
    (h5 : ∀ j, s5 (ix2 0 j) = ∑ p, I.hp p (col 5 j) * I.hp p (col 5 j)) (h6 : ∀ j, s6 (ix2 0 j) = ∑ p, I.hp p (col 6 j) * I.hp p (col 6 j))
    (h7 : ∀ p j, k0_pay31 (F := Ideal) v5 v8 w ws b (ix2 p j) = I.hp p (col 7 j)) (n : Fin 2048) :
    k0_pay33 (F := Ideal) v5 v8 s0 s1 s2 s3 s4 s5 s6 w ws b (ix2 0 n) = I.gx n := by
  refine col_cases (fun n => k0_pay33 (F := Ideal) v5 v8 s0 s1 s2 s3 s4 s5 s6 w ws b (ix2 0 n) = I.gx n) (fun c j => ?_) n
  rw [← I.gx_kernel]
  have hc : c = 0 ∨ c = 1 ∨ c = 2 ∨ c = 3 ∨ c = 4 ∨ c = 5 ∨ c = 6 ∨ c = 7 := by omega
  rcases hc with rfl | rfl | rfl | rfl | rfl | rfl | rfl | rfl
  · rw [← h0, show col 0 j = ⟨j.val, by omega⟩ from Fin.ext (by simp)]; unfold k0_pay33; pointwise
  · rw [← h1, show col 1 j = ⟨256 + j.val, by omega⟩ from Fin.ext (by simp)]; unfold k0_pay33; pointwise
    all_goals repeat rw [dif_neg (by omega)]
    all_goals try rw [dif_pos (by omega)]
    all_goals simp only [show ∀ h, (⟨256 + j.val - 256, h⟩ : Fin 256) = j from fun _ => Fin.ext (show 256 + j.val - 256 = j.val by omega)]
  · rw [← h2, show col 2 j = ⟨512 + j.val, by omega⟩ from Fin.ext (by simp)]; unfold k0_pay33; pointwise
    all_goals repeat rw [dif_neg (by omega)]
    all_goals try rw [dif_pos (by omega)]
    all_goals simp only [show ∀ h, (⟨512 + j.val - 256 - 256, h⟩ : Fin 256) = j from fun _ => Fin.ext (show 512 + j.val - 256 - 256 = j.val by omega)]
  · rw [← h3, show col 3 j = ⟨768 + j.val, by omega⟩ from Fin.ext (by simp)]; unfold k0_pay33; pointwise
    all_goals repeat rw [dif_neg (by omega)]
    all_goals try rw [dif_pos (by omega)]
    all_goals simp only [show ∀ h, (⟨768 + j.val - 256 - 256 - 256, h⟩ : Fin 256) = j from fun _ => Fin.ext (show 768 + j.val - 256 - 256 - 256 = j.val by omega)]
  · rw [← h4, show col 4 j = ⟨1024 + j.val, by omega⟩ from Fin.ext (by simp)]; unfold k0_pay33; pointwise
    all_goals repeat rw [dif_neg (by omega)]
    all_goals try rw [dif_pos (by omega)]
    all_goals simp only [show ∀ h, (⟨1024 + j.val - 256 - 256 - 256 - 256, h⟩ : Fin 256) = j from fun _ => Fin.ext (show 1024 + j.val - 256 - 256 - 256 - 256 = j.val by omega)]
  · rw [← h5, show col 5 j = ⟨1280 + j.val, by omega⟩ from Fin.ext (by simp)]; unfold k0_pay33; pointwise
    all_goals repeat rw [dif_neg (by omega)]
    all_goals try rw [dif_pos (by omega)]
    all_goals simp only [show ∀ h, (⟨1280 + j.val - 256 - 256 - 256 - 256 - 256, h⟩ : Fin 256) = j from fun _ => Fin.ext (show 1280 + j.val - 256 - 256 - 256 - 256 - 256 = j.val by omega)]
  · rw [← h6, show col 6 j = ⟨1536 + j.val, by omega⟩ from Fin.ext (by simp)]; unfold k0_pay33; pointwise
    all_goals repeat rw [dif_neg (by omega)]
    all_goals try rw [dif_pos (by omega)]
    all_goals simp only [show ∀ h, (⟨1536 + j.val - 256 - 256 - 256 - 256 - 256 - 256, h⟩ : Fin 256) = j from fun _ => Fin.ext (show 1536 + j.val - 256 - 256 - 256 - 256 - 256 - 256 = j.val by omega)]
  · simp only [← h7]; rw [show col 7 j = ⟨1792 + j.val, by omega⟩ from Fin.ext (by simp)]; unfold k0_pay33; pointwise
    all_goals repeat rw [dif_neg (by omega)]
    all_goals simp only [show ∀ h, (⟨1792 + j.val - 256 - 256 - 256 - 256 - 256 - 256 - 256, h⟩ : Fin 256) = j from fun _ => Fin.ext (show 1792 + j.val - 256 - 256 - 256 - 256 - 256 - 256 - 256 = j.val by omega)]

/-- The response row as a one-image block. -/
theorem gxOut_at (v5 v8 s0 s1 s2 s3 s4 s5 s6 w ws b) (n : Fin 2048) : k0_pay34 (F := Ideal) v5 v8 s0 s1 s2 s3 s4 s5 s6 w ws b (ix3 0 0 n)
      = k0_pay33 (F := Ideal) v5 v8 s0 s1 s2 s3 s4 s5 s6 w ws b (ix2 0 n) := by
  unfold k0_pay34; pointwise

/-- The mean of the responses, plus the small constant. -/
theorem den_at (v5 v8 s0 s1 s2 s3 s4 s5 s6 w ws b) (hg : ∀ n, k0_pay33 (F := Ideal) v5 v8 s0 s1 s2 s3 s4 s5 s6 w ws b (ix2 0 n) = I.gx n) :
    k0_pay35 (F := Ideal) v5 v8 s0 s1 s2 s3 s4 s5 s6 w ws b (ix2 0 0) = I.den := by
  unfold k0_pay35; pointwise
  simp only [hg]; rfl

/-- The folded multiplier. -/
theorem mul_at (gx den gam) (hg : ∀ n, gx (ix2 0 n) = I.gx n) (hd : den (ix2 0 0) = I.den) (h6 : ∀ n, gam (ix2 0 n) = I.gam n) (n : Fin 2048) :
    k0_pay36 (F := Ideal) gx den gam (ix2 0 n) = (I.gam n * I.nx n + 1) * kap := by
  unfold k0_pay36; pointwise
  simp only [named_kap, hg, hd, h6]; rfl

end Norm

section Rows

variable (I : Image) (mul : FVec Ideal S1x2048 .f32) (hm : ∀ n, mul (ix2 0 n) = (I.gam n * I.nx n + 1) * kap)
  (v : Vec Ideal S32x2048 .f32) (gb : Vec Ideal S1x2048 .f32) (i : Fin 7)

/-- Row `p` of block `i`. -/
abbrev row (i : Fin 7) (p : Fin 32) : Fin 224 := ⟨32 * i.val + p.val, by omega⟩

variable (hv : ∀ p n, v (ix2 p n) = I.hp (row i p) n) (hb : ∀ n, gb (ix2 0 n) = I.bet n)

include hm hv hb

/-- A row block of the normalised activation. -/
theorem g_at (p : Fin 32) (n : Fin 2048) : k0_pay47 (F := Ideal) mul v gb (ix2 p n) = I.G (row i p) n := by
  unfold k0_pay47; pointwise
  rw [hm, hv, hb, Img.G_kernel]

/-- Its scales. -/
theorem s_at (p : Fin 32) : k0_pay48 (F := Ideal) mul v gb (ix2 p 0) = I.S (row i p) := by
  unfold k0_pay48; pointwise
  simp only [g_at I mul hm v gb i hv hb]; rfl

/-- Its quantised values. -/
theorem q_at (p : Fin 32) (n : Fin 2048) : k0_pay49 (F := Ideal) mul v gb (ix2 p n) = I.Q (row i p) n := by
  unfold k0_pay49; pointwise
  rw [s_at I mul hm v gb i hv hb, g_at I mul hm v gb i hv hb]; rfl

/-- Its codes. -/
theorem codes_at (p : Fin 32) (n : Fin 2048) : k0_pay50 (F := Ideal) mul v gb (ix3 0 p n) = Ideal.fptosi 8 (I.Q (row i p) n) := by
  unfold k0_pay50; pointwise
  rw [q_at I mul hm v gb i hv hb]; rfl

/-- Its scales as a row of the output. -/
theorem scales_at (p : Fin 32) : k0_pay51 (F := Ideal) mul v gb (ix3 0 0 p) = I.S (row i p) := by
  unfold k0_pay51; pointwise
  exact s_at I mul hm v gb i hv hb p

variable (w2 : Vec Ideal S2048x512 .bf16) (ws b : Vec Ideal S1x512 .f32) (x : Vec Ideal S1x32x512 .bf16)
  (h8 : ∀ n k, w2 (ix2 n k) = I.W2 n k) (h9 : ∀ k, ws (ix2 0 k) = I.ws2 k) (h10 : ∀ k, b (ix2 0 k) = I.b2 k)
  (hx : ∀ p k, x (ix3 0 p k) = I.X (row i p) k)

include h8 h9 h10 hx

/-- Its residual sum. -/
theorem r_at (p : Fin 32) (k : Fin 512) : k0_pay44 (F := Ideal) (k0_pay48 mul v gb) (k0_pay49 mul v gb) w2 ws b x (ix2 p k) = I.R (row i p) k := by
  unfold k0_pay44; pointwise
  simp only [s_at I mul hm v gb i hv hb, q_at I mul hm v gb i hv hb, h8, h9, h10, hx]; rfl

/-- The output's row block. -/
theorem out_at (p : Fin 32) (k : Fin 512) :
    k0_pay45 (F := Ideal) (k0_pay48 mul v gb) (k0_pay49 mul v gb) w2 ws b x (ix3 0 p k) = I.R (row i p) k := by
  unfold k0_pay45; pointwise
  exact r_at I mul hm v gb i hv hb w2 ws b x h8 h9 h10 hx p k

/-- The output codes' row block, dividing by a nonzero scale. -/
theorem oc_at (os : Elt Ideal .f32) (ho : os = I.os) (h : I.os ≠ 0) (p : Fin 32) (k : Fin 512) :
    k0_pay46 (F := Ideal) (k0_pay37 os) (k0_pay48 mul v gb) (k0_pay49 mul v gb) w2 ws b x (ix3 0 p k) = Ideal.fptosi 8 (I.O (row i p) k) := by
  unfold k0_pay46 k0_pay37; pointwise
  rw [r_at I mul hm v gb i hv hb w2 ws b x h8 h9 h10 hx, ho, ← I.O_kernel h]; rfl

end Rows

end Cert.Pay

end
-- ==== Proof.Blk.lean ====
/- Hand-written, untrusted: ONE GRID POINT'S OUTPUT BLOCKS. The blocks the body leaves in its five output windows, from the
   blocks it is given: eight column chunks of the pre-scaled activation are stored and read back in seven row blocks, each row
   block is normalised, quantised and multiplied, and the row blocks are stored side by side. -/
module

public import proofs.«01_k».proof.Proof.Pay
public import Idealize.ShloMosaic.Lib.Pipeline.ReadBack

@[expose] public section

set_option maxRecDepth 16384

noncomputable section

namespace Cert.Blk

open Cert.KernelIdeal Cert.KernelIdeal.Gen Idealize.ShloMosaic Idealize.ShloMosaic.TcCoe Idealize.SL.Sem
open Idealize.ShloMosaic.Pointwise Cert.Model Cert.Alg Cert.Pay

/-! ## The later chunks and row blocks are the first, by definition -/

section Forms

variable {F : FTy → Type} [FloatOps F] [Named F]

variable (x0 : Vec F S1x224x512 .i8) (x1 : Vec F S1x1x224 .f32) (w : Vec F S512x256 .bf16) (ws b : Vec F S1x256 .f32)

theorem form10 : k0_pay10 (F := F) (k0_pay4 x0) (k0_pay5 x1) w ws b = k0_pay7 x0 x1 w ws b := rfl
theorem form11 : k0_pay11 (F := F) (k0_pay4 x0) (k0_pay5 x1) w ws b = k0_pay8 x0 x1 w ws b := rfl
theorem form15 : k0_pay15 (F := F) (k0_pay12 (k0_pay4 x0) (k0_pay5 x1) w ws) (k0_pay13 b) (Named.named κ "inv_sqrt2" 0x3F3504F3#32) = k0_pay7 x0 x1 w ws b := rfl
theorem form16 : k0_pay16 (F := F) (k0_pay12 (k0_pay4 x0) (k0_pay5 x1) w ws) (k0_pay13 b) (Named.named κ "inv_sqrt2" 0x3F3504F3#32) = k0_pay8 x0 x1 w ws b := rfl
theorem form18 : k0_pay18 (F := F) (k0_pay4 x0) (k0_pay5 x1) w ws b = k0_pay7 x0 x1 w ws b := rfl
theorem form19 : k0_pay19 (F := F) (k0_pay4 x0) (k0_pay5 x1) w ws b = k0_pay8 x0 x1 w ws b := rfl
theorem form21 : k0_pay21 (F := F) (k0_pay4 x0) (k0_pay5 x1) w ws b = k0_pay7 x0 x1 w ws b := rfl
theorem form22 : k0_pay22 (F := F) (k0_pay4 x0) (k0_pay5 x1) w ws b = k0_pay8 x0 x1 w ws b := rfl
theorem form26 : k0_pay26 (F := F) (k0_pay23 (k0_pay4 x0) (k0_pay5 x1) w ws) (k0_pay24 b) (Named.named κ "inv_sqrt2" 0x3F3504F3#32) = k0_pay7 x0 x1 w ws b := rfl
theorem form27 : k0_pay27 (F := F) (k0_pay23 (k0_pay4 x0) (k0_pay5 x1) w ws) (k0_pay24 b) (Named.named κ "inv_sqrt2" 0x3F3504F3#32) = k0_pay8 x0 x1 w ws b := rfl
theorem form29 : k0_pay29 (F := F) (k0_pay4 x0) (k0_pay5 x1) w ws b = k0_pay7 x0 x1 w ws b := rfl
theorem form30 : k0_pay30 (F := F) (k0_pay4 x0) (k0_pay5 x1) w ws b = k0_pay8 x0 x1 w ws b := rfl
theorem form32 : k0_pay32 (F := F) (k0_pay4 x0) (k0_pay5 x1) w ws b = k0_pay7 x0 x1 w ws b := rfl
theorem form31 : k0_pay31 (F := F) (k0_pay4 x0) (k0_pay5 x1) w ws b = k0_pay6 x0 x1 w ws b := rfl

variable (gx : FVec F S1x2048 .f32) (den : FVec F S1x1 .f32) (gam : Vec F S1x2048 .f32) (mul : FVec F S1x2048 .f32)
  (v : Vec F S32x2048 .f32) (gb : Vec F S1x2048 .f32) (w2 : Vec F S2048x512 .bf16) (s2 c2 : Vec F S1x512 .f32)
  (x : Vec F S1x32x512 .bf16) (q : F .f32)

theorem row41 : k0_pay41 (F := F) gx den gam v gb = k0_pay50 (k0_pay36 gx den gam) v gb := rfl
theorem row43 : k0_pay43 (F := F) (k0_pay42 gx den gam v gb) = k0_pay51 (k0_pay36 gx den gam) v gb := rfl
theorem row45 : k0_pay45 (F := F) (k0_pay39 gx den gam v gb) (k0_pay40 gx den gam v gb) w2 s2 c2 x = k0_pay45 (k0_pay48 (k0_pay36 gx den gam) v gb) (k0_pay49 (k0_pay36 gx den gam) v gb) w2 s2 c2 x := rfl
theorem row46 : k0_pay46 (F := F) q (k0_pay39 gx den gam v gb) (k0_pay40 gx den gam v gb) w2 s2 c2 x = k0_pay46 q (k0_pay48 (k0_pay36 gx den gam) v gb) (k0_pay49 (k0_pay36 gx den gam) v gb) w2 s2 c2 x := rfl
theorem row55 : k0_pay55 (F := F) (k0_pay52 mul v gb w2) (k0_pay53 s2) c2 x = k0_pay45 (k0_pay48 mul v gb) (k0_pay49 mul v gb) w2 s2 c2 x := rfl
theorem row56 : k0_pay56 (F := F) q (k0_pay52 mul v gb w2) (k0_pay53 s2) c2 x = k0_pay46 q (k0_pay48 mul v gb) (k0_pay49 mul v gb) w2 s2 c2 x := rfl
theorem row63 : k0_pay63 (F := F) (k0_pay57 mul v gb) (k0_pay58 mul v gb) (k0_pay59 mul v gb) k0_pay60 = k0_pay50 mul v gb := rfl
theorem row64 : k0_pay64 (F := F) (k0_pay58 mul v gb) (k0_pay59 mul v gb) k0_pay60 = k0_pay51 mul v gb := rfl
theorem row67 : k0_pay67 (F := F) (k0_pay66 (k0_pay57 mul v gb) (k0_pay58 mul v gb) (k0_pay59 mul v gb) k0_pay60 w2 s2 c2 x) = k0_pay45 (k0_pay48 mul v gb) (k0_pay49 mul v gb) w2 s2 c2 x := rfl
theorem row68 : k0_pay68 (F := F) q (k0_pay65 (k0_pay57 mul v gb) (k0_pay58 mul v gb) (k0_pay59 mul v gb) k0_pay60 w2 s2 c2 x) = k0_pay46 q (k0_pay48 mul v gb) (k0_pay49 mul v gb) w2 s2 c2 x := rfl
theorem row73 : k0_pay73 (k0_pay72 mul v gb) = k0_pay50 mul v gb := rfl
theorem row74 : k0_pay74 (F := F) (k0_pay70 mul v gb) = k0_pay51 mul v gb := rfl
theorem row76 : k0_pay76 (F := F) (k0_pay70 mul v gb) (k0_pay71 mul v gb) w2 s2 c2 x = k0_pay45 (k0_pay48 mul v gb) (k0_pay49 mul v gb) w2 s2 c2 x := rfl
theorem row78 : k0_pay78 (k0_pay77 q (k0_pay70 mul v gb) (k0_pay71 mul v gb) w2 s2 c2 x) = k0_pay46 q (k0_pay48 mul v gb) (k0_pay49 mul v gb) w2 s2 c2 x := rfl
theorem row82 : k0_pay82 (F := F) mul v gb = k0_pay50 mul v gb := rfl
theorem row83 : k0_pay83 (F := F) mul v gb = k0_pay51 mul v gb := rfl
theorem row86 : k0_pay86 (F := F) (k0_pay84 mul v gb w2) s2 c2 x = k0_pay45 (k0_pay48 mul v gb) (k0_pay49 mul v gb) w2 s2 c2 x := rfl
theorem row87 : k0_pay87 (F := F) q (k0_pay84 mul v gb w2) s2 c2 x = k0_pay46 q (k0_pay48 mul v gb) (k0_pay49 mul v gb) w2 s2 c2 x := rfl
theorem row93 : k0_pay93 (F := F) (k0_pay88 mul v gb) (k0_pay89 mul v gb) k0_pay90 = k0_pay50 mul v gb := rfl
theorem row94 : k0_pay94 (F := F) (k0_pay89 mul v gb) k0_pay90 = k0_pay51 mul v gb := rfl
theorem row97 : k0_pay97 (F := F) (k0_pay96 (k0_pay88 mul v gb) (k0_pay89 mul v gb) k0_pay90 w2 s2 c2 x) = k0_pay45 (k0_pay48 mul v gb) (k0_pay49 mul v gb) w2 s2 c2 x := rfl
theorem row98 : k0_pay98 (F := F) q (k0_pay95 (k0_pay88 mul v gb) (k0_pay89 mul v gb) k0_pay90 w2 s2 c2 x) = k0_pay46 q (k0_pay48 mul v gb) (k0_pay49 mul v gb) w2 s2 c2 x := rfl
theorem row103 : k0_pay103 (k0_pay102 mul v gb) = k0_pay50 mul v gb := rfl
theorem row104 : k0_pay104 (F := F) (k0_pay100 mul v gb) = k0_pay51 mul v gb := rfl
theorem row106 : k0_pay106 (F := F) (k0_pay100 mul v gb) (k0_pay101 mul v gb) w2 s2 c2 x = k0_pay45 (k0_pay48 mul v gb) (k0_pay49 mul v gb) w2 s2 c2 x := rfl
theorem row1 : k0_pay1 (k0_pay107 q (k0_pay100 mul v gb) (k0_pay101 mul v gb) w2 s2 c2 x) = k0_pay46 q (k0_pay48 mul v gb) (k0_pay49 mul v gb) w2 s2 c2 x := rfl

end Forms

/-! ## Pieces stored side by side, read back -/

/-- An index of a block with a leading axis of one. -/
theorem eq_ix3_0 {b c : Nat} (x : (⟨3, ![1, b, c]⟩ : Shape).Idx) : x = ix3 (0 : Fin 1) (x 1 : Fin b) (x 2 : Fin c) := by
  exact (eq_ix3 x).trans (congrArg (fun a : Fin 1 => ix3 a (x 1 : Fin b) (x 2 : Fin c)) (Subsingleton.elim (α := Fin 1) (x 0) 0))

theorem eq_ix3_00 {c : Nat} (x : (⟨3, ![1, 1, c]⟩ : Shape).Idx) : x = ix3 (0 : Fin 1) (0 : Fin 1) (x 2 : Fin c) := by
  exact (eq_ix3_0 x).trans (congrArg (fun a : Fin 1 => ix3 (0 : Fin 1) a (x 2 : Fin c)) (Subsingleton.elim (α := Fin 1) (x 1) 0))

/-- Seven row blocks of 512 columns stored side by side hold, at row `p`, what the block of `p` holds. -/
theorem rows512 {e : EltTy} (P0 P1 P2 P3 P4 P5 P6 : Vec Ideal S1x32x512 e) (G : Fin 224 → Fin 512 → Elt Ideal e)
    (H0 : ∀ p k, P0 (ix3 0 p k) = G (row 0 p) k)
    (H1 : ∀ p k, P1 (ix3 0 p k) = G (row 1 p) k)
    (H2 : ∀ p k, P2 (ix3 0 p k) = G (row 2 p) k)
    (H3 : ∀ p k, P3 (ix3 0 p k) = G (row 3 p) k)
    (H4 : ∀ p k, P4 (ix3 0 p k) = G (row 4 p) k)
    (H5 : ∀ p k, P5 (ix3 0 p k) = G (row 5 p) k)
    (H6 : ∀ p k, P6 (ix3 0 p k) = G (row 6 p) k)
    (p : Fin 224) (k : Fin 512) :
    View.canon [(⟨Rect.unit ![0, 192, 0] ![1, 32, 512] inb_S1x224x512_S1x32x512_0_192_0, P6⟩ : View.Piece (Elt Ideal) S1x224x512 e),
        ⟨Rect.unit ![0, 160, 0] ![1, 32, 512] inb_S1x224x512_S1x32x512_0_160_0, P5⟩,
        ⟨Rect.unit ![0, 128, 0] ![1, 32, 512] inb_S1x224x512_S1x32x512_0_128_0, P4⟩,
        ⟨Rect.unit ![0, 96, 0] ![1, 32, 512] inb_S1x224x512_S1x32x512_0_96_0, P3⟩,
        ⟨Rect.unit ![0, 64, 0] ![1, 32, 512] inb_S1x224x512_S1x32x512_0_64_0, P2⟩,
        ⟨Rect.unit ![0, 32, 0] ![1, 32, 512] inb_S1x224x512_S1x32x512_0_32_0, P1⟩,
        ⟨Rect.unit ![0, 0, 0] ![1, 32, 512] inb_S1x224x512_S1x32x512_0_0_0, P0⟩] (ix3 0 p k) = G p k := by
  canon_tiles x h
  · rw [eq_ix3_0 x]; refine (H6 _ _).trans (congrArg₂ G ?_ ?_)
    all_goals exact Fin.ext (by simp [row, col] at *; omega)
  · rw [eq_ix3_0 x]; refine (H5 _ _).trans (congrArg₂ G ?_ ?_)
    all_goals exact Fin.ext (by simp [row, col] at *; omega)
  · rw [eq_ix3_0 x]; refine (H4 _ _).trans (congrArg₂ G ?_ ?_)
    all_goals exact Fin.ext (by simp [row, col] at *; omega)
  · rw [eq_ix3_0 x]; refine (H3 _ _).trans (congrArg₂ G ?_ ?_)
    all_goals exact Fin.ext (by simp [row, col] at *; omega)
  · rw [eq_ix3_0 x]; refine (H2 _ _).trans (congrArg₂ G ?_ ?_)
    all_goals exact Fin.ext (by simp [row, col] at *; omega)
  · rw [eq_ix3_0 x]; refine (H1 _ _).trans (congrArg₂ G ?_ ?_)
    all_goals exact Fin.ext (by simp [row, col] at *; omega)
  · rw [eq_ix3_0 x]; refine (H0 _ _).trans (congrArg₂ G ?_ ?_)
    all_goals exact Fin.ext (by simp [row, col] at *; omega)
/-- Seven row blocks of 2048 columns stored side by side hold, at row `p`, what the block of `p` holds. -/
theorem rows2048 {e : EltTy} (P0 P1 P2 P3 P4 P5 P6 : Vec Ideal S1x32x2048 e) (G : Fin 224 → Fin 2048 → Elt Ideal e)
    (H0 : ∀ p k, P0 (ix3 0 p k) = G (row 0 p) k)
    (H1 : ∀ p k, P1 (ix3 0 p k) = G (row 1 p) k)
    (H2 : ∀ p k, P2 (ix3 0 p k) = G (row 2 p) k)
    (H3 : ∀ p k, P3 (ix3 0 p k) = G (row 3 p) k)
    (H4 : ∀ p k, P4 (ix3 0 p k) = G (row 4 p) k)
    (H5 : ∀ p k, P5 (ix3 0 p k) = G (row 5 p) k)
    (H6 : ∀ p k, P6 (ix3 0 p k) = G (row 6 p) k)
    (p : Fin 224) (k : Fin 2048) :
    View.canon [(⟨Rect.unit ![0, 192, 0] ![1, 32, 2048] inb_S1x224x2048_S1x32x2048_0_192_0, P6⟩ : View.Piece (Elt Ideal) S1x224x2048 e),
        ⟨Rect.unit ![0, 160, 0] ![1, 32, 2048] inb_S1x224x2048_S1x32x2048_0_160_0, P5⟩,
        ⟨Rect.unit ![0, 128, 0] ![1, 32, 2048] inb_S1x224x2048_S1x32x2048_0_128_0, P4⟩,
        ⟨Rect.unit ![0, 96, 0] ![1, 32, 2048] inb_S1x224x2048_S1x32x2048_0_96_0, P3⟩,
        ⟨Rect.unit ![0, 64, 0] ![1, 32, 2048] inb_S1x224x2048_S1x32x2048_0_64_0, P2⟩,
        ⟨Rect.unit ![0, 32, 0] ![1, 32, 2048] inb_S1x224x2048_S1x32x2048_0_32_0, P1⟩,
        ⟨Rect.unit ![0, 0, 0] ![1, 32, 2048] inb_S1x224x2048_S1x32x2048_0_0_0, P0⟩] (ix3 0 p k) = G p k := by
  canon_tiles x h
  · rw [eq_ix3_0 x]; refine (H6 _ _).trans (congrArg₂ G ?_ ?_)
    all_goals exact Fin.ext (by simp [row, col] at *; omega)
  · rw [eq_ix3_0 x]; refine (H5 _ _).trans (congrArg₂ G ?_ ?_)
    all_goals exact Fin.ext (by simp [row, col] at *; omega)
  · rw [eq_ix3_0 x]; refine (H4 _ _).trans (congrArg₂ G ?_ ?_)
    all_goals exact Fin.ext (by simp [row, col] at *; omega)
  · rw [eq_ix3_0 x]; refine (H3 _ _).trans (congrArg₂ G ?_ ?_)
    all_goals exact Fin.ext (by simp [row, col] at *; omega)
  · rw [eq_ix3_0 x]; refine (H2 _ _).trans (congrArg₂ G ?_ ?_)
    all_goals exact Fin.ext (by simp [row, col] at *; omega)
  · rw [eq_ix3_0 x]; refine (H1 _ _).trans (congrArg₂ G ?_ ?_)
    all_goals exact Fin.ext (by simp [row, col] at *; omega)
  · rw [eq_ix3_0 x]; refine (H0 _ _).trans (congrArg₂ G ?_ ?_)
    all_goals exact Fin.ext (by simp [row, col] at *; omega)
/-- Seven blocks of scales stored side by side hold, at `p`, what the block of `p` holds. -/
theorem rowsS {e : EltTy} (P0 P1 P2 P3 P4 P5 P6 : Vec Ideal S1x1x32 e) (G : Fin 224 → Elt Ideal e)
    (H0 : ∀ p, P0 (ix3 0 0 p) = G (row 0 p))
    (H1 : ∀ p, P1 (ix3 0 0 p) = G (row 1 p))
    (H2 : ∀ p, P2 (ix3 0 0 p) = G (row 2 p))
    (H3 : ∀ p, P3 (ix3 0 0 p) = G (row 3 p))
    (H4 : ∀ p, P4 (ix3 0 0 p) = G (row 4 p))
    (H5 : ∀ p, P5 (ix3 0 0 p) = G (row 5 p))
    (H6 : ∀ p, P6 (ix3 0 0 p) = G (row 6 p))
    (p : Fin 224) :
    View.canon [(⟨Rect.unit ![0, 0, 192] ![1, 1, 32] inb_S1x1x224_S1x1x32_0_0_192, P6⟩ : View.Piece (Elt Ideal) S1x1x224 e),
        ⟨Rect.unit ![0, 0, 160] ![1, 1, 32] inb_S1x1x224_S1x1x32_0_0_160, P5⟩,
        ⟨Rect.unit ![0, 0, 128] ![1, 1, 32] inb_S1x1x224_S1x1x32_0_0_128, P4⟩,
        ⟨Rect.unit ![0, 0, 96] ![1, 1, 32] inb_S1x1x224_S1x1x32_0_0_96, P3⟩,
        ⟨Rect.unit ![0, 0, 64] ![1, 1, 32] inb_S1x1x224_S1x1x32_0_0_64, P2⟩,
        ⟨Rect.unit ![0, 0, 32] ![1, 1, 32] inb_S1x1x224_S1x1x32_0_0_32, P1⟩,
        ⟨Rect.unit ![0, 0, 0] ![1, 1, 32] inb_S1x1x224_S1x1x32_0_0_0, P0⟩] (ix3 0 0 p) = G p := by
  canon_tiles x h
  · rw [eq_ix3_00 x]; refine (H6 _).trans (congrArg G ?_)
    all_goals exact Fin.ext (by simp [row, col] at *; omega)
  · rw [eq_ix3_00 x]; refine (H5 _).trans (congrArg G ?_)
    all_goals exact Fin.ext (by simp [row, col] at *; omega)
  · rw [eq_ix3_00 x]; refine (H4 _).trans (congrArg G ?_)
    all_goals exact Fin.ext (by simp [row, col] at *; omega)
  · rw [eq_ix3_00 x]; refine (H3 _).trans (congrArg G ?_)
    all_goals exact Fin.ext (by simp [row, col] at *; omega)
  · rw [eq_ix3_00 x]; refine (H2 _).trans (congrArg G ?_)
    all_goals exact Fin.ext (by simp [row, col] at *; omega)
  · rw [eq_ix3_00 x]; refine (H1 _).trans (congrArg G ?_)
    all_goals exact Fin.ext (by simp [row, col] at *; omega)
  · rw [eq_ix3_00 x]; refine (H0 _).trans (congrArg G ?_)
    all_goals exact Fin.ext (by simp [row, col] at *; omega)
/-- Eight column chunks stored side by side hold, at column `n`, what the chunk of `n` holds. -/
theorem colsL {e : EltTy} (P0 P1 P2 P3 P4 P5 P6 P7 : Vec Ideal S224x256 e) (G : Fin 224 → Fin 2048 → Elt Ideal e)
    (H0 : ∀ p j, P0 (ix2 p j) = G p (col 0 j))
    (H1 : ∀ p j, P1 (ix2 p j) = G p (col 1 j))
    (H2 : ∀ p j, P2 (ix2 p j) = G p (col 2 j))
    (H3 : ∀ p j, P3 (ix2 p j) = G p (col 3 j))
    (H4 : ∀ p j, P4 (ix2 p j) = G p (col 4 j))
    (H5 : ∀ p j, P5 (ix2 p j) = G p (col 5 j))
    (H6 : ∀ p j, P6 (ix2 p j) = G p (col 6 j))
    (H7 : ∀ p j, P7 (ix2 p j) = G p (col 7 j))
    (p : Fin 224) (n : Fin 2048) :
    View.canon [(⟨Rect.unit ![0, 1792] ![224, 256] inb_S224x2048_S224x256_0_1792, P7⟩ : View.Piece (Elt Ideal) S224x2048 e),
        ⟨Rect.unit ![0, 1536] ![224, 256] inb_S224x2048_S224x256_0_1536, P6⟩,
        ⟨Rect.unit ![0, 1280] ![224, 256] inb_S224x2048_S224x256_0_1280, P5⟩,
        ⟨Rect.unit ![0, 1024] ![224, 256] inb_S224x2048_S224x256_0_1024, P4⟩,
        ⟨Rect.unit ![0, 768] ![224, 256] inb_S224x2048_S224x256_0_768, P3⟩,
        ⟨Rect.unit ![0, 512] ![224, 256] inb_S224x2048_S224x256_0_512, P2⟩,
        ⟨Rect.unit ![0, 256] ![224, 256] inb_S224x2048_S224x256_0_256, P1⟩,
        ⟨Rect.unit ![0, 0] ![224, 256] inb_S224x2048_S224x256_0_0, P0⟩] (ix2 p n) = G p n := by
  canon_tiles x h
  · rw [eq_ix2 x]; refine (H7 _ _).trans (congrArg₂ G ?_ ?_)
    all_goals exact Fin.ext (by simp [row, col] at *; omega)
  · rw [eq_ix2 x]; refine (H6 _ _).trans (congrArg₂ G ?_ ?_)
    all_goals exact Fin.ext (by simp [row, col] at *; omega)
  · rw [eq_ix2 x]; refine (H5 _ _).trans (congrArg₂ G ?_ ?_)
    all_goals exact Fin.ext (by simp [row, col] at *; omega)
  · rw [eq_ix2 x]; refine (H4 _ _).trans (congrArg₂ G ?_ ?_)
    all_goals exact Fin.ext (by simp [row, col] at *; omega)
  · rw [eq_ix2 x]; refine (H3 _ _).trans (congrArg₂ G ?_ ?_)
    all_goals exact Fin.ext (by simp [row, col] at *; omega)
  · rw [eq_ix2 x]; refine (H2 _ _).trans (congrArg₂ G ?_ ?_)
    all_goals exact Fin.ext (by simp [row, col] at *; omega)
  · rw [eq_ix2 x]; refine (H1 _ _).trans (congrArg₂ G ?_ ?_)
    all_goals exact Fin.ext (by simp [row, col] at *; omega)
  · rw [eq_ix2 x]; refine (H0 _ _).trans (congrArg₂ G ?_ ?_)
    all_goals exact Fin.ext (by simp [row, col] at *; omega)

/-- A scratch written whole reads back, through a box, the written value in that box. -/
theorem readCov_whole {κ : Kind} (v : View sig κ .vmem S512x2048 .bf16) (X : Vec Ideal S512x2048 .bf16) (r : Rect S512x2048) :
    v.readCov (Val := Elt Ideal)
      [(⟨Rect.unit ![0, 0] ![512, 2048] inb_S512x2048_S512x2048_0_0, X⟩ : View.Piece (Elt Ideal) S512x2048 .bf16)] r.toLoadRect = View.ld X r := by
  rw [View.readCov_eq_canon']
  funext j
  refine View.canon_eq_of_allAt _ _ _ ?_ ?_
  · exact ⟨_, List.mem_singleton.mpr rfl, by rw [Rect.mem_set_unit]; intro a; have := (r.idx j a).isLt; fin_cases a <;> simpa using this⟩
  · intro p hp x hx
    obtain rfl := List.mem_singleton.mp hp
    refine congrArg X (?_ : x = r.idx j)
    funext a; apply Fin.ext
    have := congrArg (fun y => (y a).val) hx
    fin_cases a <;> simpa using this

/-! ## The blocks one grid point leaves -/

section Block

variable (x0 : Vec Ideal S1x224x512 .i8) (x1 : Vec Ideal S1x1x224 .f32) (x2 : Vec Ideal S1x224x512 .bf16)
    (w1 : Vec Ideal S512x2048 .bf16) (x4 x5 x6 x7 : Vec Ideal S1x2048 .f32) (w2 : Vec Ideal S2048x512 .bf16)
    (x9 x10 : Vec Ideal S1x512 .f32) (x11 : Vec Ideal S1x1 .f32)

/-- The activation scratch: its eight stored chunks, last first. -/
def hsL : List (View.Piece (Elt Ideal) S224x2048 .f32) :=
  [⟨Rect.unit ![0, 1792] ![224, 256] inb_S224x2048_S224x256_0_1792, k0_pay7 (F := Ideal) x0 x1
      (View.ld w1 (Rect.unit ![0, 1792] ![512, 256] inb_S512x2048_S512x256_0_1792)) (View.ld x4 (Rect.unit ![0, 1792] ![1, 256] inb_S1x2048_S1x256_0_1792)) (View.ld x5 (Rect.unit ![0, 1792] ![1, 256] inb_S1x2048_S1x256_0_1792))⟩,
   ⟨Rect.unit ![0, 1536] ![224, 256] inb_S224x2048_S224x256_0_1536, k0_pay7 (F := Ideal) x0 x1
      (View.ld w1 (Rect.unit ![0, 1536] ![512, 256] inb_S512x2048_S512x256_0_1536)) (View.ld x4 (Rect.unit ![0, 1536] ![1, 256] inb_S1x2048_S1x256_0_1536)) (View.ld x5 (Rect.unit ![0, 1536] ![1, 256] inb_S1x2048_S1x256_0_1536))⟩,
   ⟨Rect.unit ![0, 1280] ![224, 256] inb_S224x2048_S224x256_0_1280, k0_pay7 (F := Ideal) x0 x1
      (View.ld w1 (Rect.unit ![0, 1280] ![512, 256] inb_S512x2048_S512x256_0_1280)) (View.ld x4 (Rect.unit ![0, 1280] ![1, 256] inb_S1x2048_S1x256_0_1280)) (View.ld x5 (Rect.unit ![0, 1280] ![1, 256] inb_S1x2048_S1x256_0_1280))⟩,
   ⟨Rect.unit ![0, 1024] ![224, 256] inb_S224x2048_S224x256_0_1024, k0_pay7 (F := Ideal) x0 x1
      (View.ld w1 (Rect.unit ![0, 1024] ![512, 256] inb_S512x2048_S512x256_0_1024)) (View.ld x4 (Rect.unit ![0, 1024] ![1, 256] inb_S1x2048_S1x256_0_1024)) (View.ld x5 (Rect.unit ![0, 1024] ![1, 256] inb_S1x2048_S1x256_0_1024))⟩,
   ⟨Rect.unit ![0, 768] ![224, 256] inb_S224x2048_S224x256_0_768, k0_pay7 (F := Ideal) x0 x1
      (View.ld w1 (Rect.unit ![0, 768] ![512, 256] inb_S512x2048_S512x256_0_768)) (View.ld x4 (Rect.unit ![0, 768] ![1, 256] inb_S1x2048_S1x256_0_768)) (View.ld x5 (Rect.unit ![0, 768] ![1, 256] inb_S1x2048_S1x256_0_768))⟩,
   ⟨Rect.unit ![0, 512] ![224, 256] inb_S224x2048_S224x256_0_512, k0_pay7 (F := Ideal) x0 x1
      (View.ld w1 (Rect.unit ![0, 512] ![512, 256] inb_S512x2048_S512x256_0_512)) (View.ld x4 (Rect.unit ![0, 512] ![1, 256] inb_S1x2048_S1x256_0_512)) (View.ld x5 (Rect.unit ![0, 512] ![1, 256] inb_S1x2048_S1x256_0_512))⟩,
   ⟨Rect.unit ![0, 256] ![224, 256] inb_S224x2048_S224x256_0_256, k0_pay7 (F := Ideal) x0 x1
      (View.ld w1 (Rect.unit ![0, 256] ![512, 256] inb_S512x2048_S512x256_0_256)) (View.ld x4 (Rect.unit ![0, 256] ![1, 256] inb_S1x2048_S1x256_0_256)) (View.ld x5 (Rect.unit ![0, 256] ![1, 256] inb_S1x2048_S1x256_0_256))⟩,
   ⟨Rect.unit ![0, 0] ![224, 256] inb_S224x2048_S224x256_0_0, k0_pay7 (F := Ideal) x0 x1
      (View.ld w1 (Rect.unit ![0, 0] ![512, 256] inb_S512x2048_S512x256_0_0)) (View.ld x4 (Rect.unit ![0, 0] ![1, 256] inb_S1x2048_S1x256_0_0)) (View.ld x5 (Rect.unit ![0, 0] ![1, 256] inb_S1x2048_S1x256_0_0))⟩]

/-- The response row. -/
def gxB : FVec Ideal S1x2048 .f32 :=
  k0_pay33 (F := Ideal) (k0_pay4 x0) (k0_pay5 x1)
    (k0_pay8 x0 x1 (View.ld w1 (Rect.unit ![0, 0] ![512, 256] inb_S512x2048_S512x256_0_0)) (View.ld x4 (Rect.unit ![0, 0] ![1, 256] inb_S1x2048_S1x256_0_0)) (View.ld x5 (Rect.unit ![0, 0] ![1, 256] inb_S1x2048_S1x256_0_0)))
    (k0_pay8 x0 x1 (View.ld w1 (Rect.unit ![0, 256] ![512, 256] inb_S512x2048_S512x256_0_256)) (View.ld x4 (Rect.unit ![0, 256] ![1, 256] inb_S1x2048_S1x256_0_256)) (View.ld x5 (Rect.unit ![0, 256] ![1, 256] inb_S1x2048_S1x256_0_256)))
    (k0_pay8 x0 x1 (View.ld w1 (Rect.unit ![0, 512] ![512, 256] inb_S512x2048_S512x256_0_512)) (View.ld x4 (Rect.unit ![0, 512] ![1, 256] inb_S1x2048_S1x256_0_512)) (View.ld x5 (Rect.unit ![0, 512] ![1, 256] inb_S1x2048_S1x256_0_512)))
    (k0_pay8 x0 x1 (View.ld w1 (Rect.unit ![0, 768] ![512, 256] inb_S512x2048_S512x256_0_768)) (View.ld x4 (Rect.unit ![0, 768] ![1, 256] inb_S1x2048_S1x256_0_768)) (View.ld x5 (Rect.unit ![0, 768] ![1, 256] inb_S1x2048_S1x256_0_768)))
    (k0_pay8 x0 x1 (View.ld w1 (Rect.unit ![0, 1024] ![512, 256] inb_S512x2048_S512x256_0_1024)) (View.ld x4 (Rect.unit ![0, 1024] ![1, 256] inb_S1x2048_S1x256_0_1024)) (View.ld x5 (Rect.unit ![0, 1024] ![1, 256] inb_S1x2048_S1x256_0_1024)))
    (k0_pay8 x0 x1 (View.ld w1 (Rect.unit ![0, 1280] ![512, 256] inb_S512x2048_S512x256_0_1280)) (View.ld x4 (Rect.unit ![0, 1280] ![1, 256] inb_S1x2048_S1x256_0_1280)) (View.ld x5 (Rect.unit ![0, 1280] ![1, 256] inb_S1x2048_S1x256_0_1280)))
    (k0_pay8 x0 x1 (View.ld w1 (Rect.unit ![0, 1536] ![512, 256] inb_S512x2048_S512x256_0_1536)) (View.ld x4 (Rect.unit ![0, 1536] ![1, 256] inb_S1x2048_S1x256_0_1536)) (View.ld x5 (Rect.unit ![0, 1536] ![1, 256] inb_S1x2048_S1x256_0_1536)))
    (View.ld w1 (Rect.unit ![0, 1792] ![512, 256] inb_S512x2048_S512x256_0_1792)) (View.ld x4 (Rect.unit ![0, 1792] ![1, 256] inb_S1x2048_S1x256_0_1792)) (View.ld x5 (Rect.unit ![0, 1792] ![1, 256] inb_S1x2048_S1x256_0_1792))

/-- The response row as the output block. -/
def gxO : FVec Ideal S1x1x2048 .f32 :=
  k0_pay34 (F := Ideal) (k0_pay4 x0) (k0_pay5 x1)
    (k0_pay8 x0 x1 (View.ld w1 (Rect.unit ![0, 0] ![512, 256] inb_S512x2048_S512x256_0_0)) (View.ld x4 (Rect.unit ![0, 0] ![1, 256] inb_S1x2048_S1x256_0_0)) (View.ld x5 (Rect.unit ![0, 0] ![1, 256] inb_S1x2048_S1x256_0_0)))
    (k0_pay8 x0 x1 (View.ld w1 (Rect.unit ![0, 256] ![512, 256] inb_S512x2048_S512x256_0_256)) (View.ld x4 (Rect.unit ![0, 256] ![1, 256] inb_S1x2048_S1x256_0_256)) (View.ld x5 (Rect.unit ![0, 256] ![1, 256] inb_S1x2048_S1x256_0_256)))
    (k0_pay8 x0 x1 (View.ld w1 (Rect.unit ![0, 512] ![512, 256] inb_S512x2048_S512x256_0_512)) (View.ld x4 (Rect.unit ![0, 512] ![1, 256] inb_S1x2048_S1x256_0_512)) (View.ld x5 (Rect.unit ![0, 512] ![1, 256] inb_S1x2048_S1x256_0_512)))
    (k0_pay8 x0 x1 (View.ld w1 (Rect.unit ![0, 768] ![512, 256] inb_S512x2048_S512x256_0_768)) (View.ld x4 (Rect.unit ![0, 768] ![1, 256] inb_S1x2048_S1x256_0_768)) (View.ld x5 (Rect.unit ![0, 768] ![1, 256] inb_S1x2048_S1x256_0_768)))
    (k0_pay8 x0 x1 (View.ld w1 (Rect.unit ![0, 1024] ![512, 256] inb_S512x2048_S512x256_0_1024)) (View.ld x4 (Rect.unit ![0, 1024] ![1, 256] inb_S1x2048_S1x256_0_1024)) (View.ld x5 (Rect.unit ![0, 1024] ![1, 256] inb_S1x2048_S1x256_0_1024)))
    (k0_pay8 x0 x1 (View.ld w1 (Rect.unit ![0, 1280] ![512, 256] inb_S512x2048_S512x256_0_1280)) (View.ld x4 (Rect.unit ![0, 1280] ![1, 256] inb_S1x2048_S1x256_0_1280)) (View.ld x5 (Rect.unit ![0, 1280] ![1, 256] inb_S1x2048_S1x256_0_1280)))
    (k0_pay8 x0 x1 (View.ld w1 (Rect.unit ![0, 1536] ![512, 256] inb_S512x2048_S512x256_0_1536)) (View.ld x4 (Rect.unit ![0, 1536] ![1, 256] inb_S1x2048_S1x256_0_1536)) (View.ld x5 (Rect.unit ![0, 1536] ![1, 256] inb_S1x2048_S1x256_0_1536)))
    (View.ld w1 (Rect.unit ![0, 1792] ![512, 256] inb_S512x2048_S512x256_0_1792)) (View.ld x4 (Rect.unit ![0, 1792] ![1, 256] inb_S1x2048_S1x256_0_1792)) (View.ld x5 (Rect.unit ![0, 1792] ![1, 256] inb_S1x2048_S1x256_0_1792))

/-- The mean response plus the small constant. -/
def denB : FVec Ideal S1x1 .f32 :=
  k0_pay35 (F := Ideal) (k0_pay4 x0) (k0_pay5 x1)
    (k0_pay8 x0 x1 (View.ld w1 (Rect.unit ![0, 0] ![512, 256] inb_S512x2048_S512x256_0_0)) (View.ld x4 (Rect.unit ![0, 0] ![1, 256] inb_S1x2048_S1x256_0_0)) (View.ld x5 (Rect.unit ![0, 0] ![1, 256] inb_S1x2048_S1x256_0_0)))
    (k0_pay8 x0 x1 (View.ld w1 (Rect.unit ![0, 256] ![512, 256] inb_S512x2048_S512x256_0_256)) (View.ld x4 (Rect.unit ![0, 256] ![1, 256] inb_S1x2048_S1x256_0_256)) (View.ld x5 (Rect.unit ![0, 256] ![1, 256] inb_S1x2048_S1x256_0_256)))
    (k0_pay8 x0 x1 (View.ld w1 (Rect.unit ![0, 512] ![512, 256] inb_S512x2048_S512x256_0_512)) (View.ld x4 (Rect.unit ![0, 512] ![1, 256] inb_S1x2048_S1x256_0_512)) (View.ld x5 (Rect.unit ![0, 512] ![1, 256] inb_S1x2048_S1x256_0_512)))
    (k0_pay8 x0 x1 (View.ld w1 (Rect.unit ![0, 768] ![512, 256] inb_S512x2048_S512x256_0_768)) (View.ld x4 (Rect.unit ![0, 768] ![1, 256] inb_S1x2048_S1x256_0_768)) (View.ld x5 (Rect.unit ![0, 768] ![1, 256] inb_S1x2048_S1x256_0_768)))
    (k0_pay8 x0 x1 (View.ld w1 (Rect.unit ![0, 1024] ![512, 256] inb_S512x2048_S512x256_0_1024)) (View.ld x4 (Rect.unit ![0, 1024] ![1, 256] inb_S1x2048_S1x256_0_1024)) (View.ld x5 (Rect.unit ![0, 1024] ![1, 256] inb_S1x2048_S1x256_0_1024)))
    (k0_pay8 x0 x1 (View.ld w1 (Rect.unit ![0, 1280] ![512, 256] inb_S512x2048_S512x256_0_1280)) (View.ld x4 (Rect.unit ![0, 1280] ![1, 256] inb_S1x2048_S1x256_0_1280)) (View.ld x5 (Rect.unit ![0, 1280] ![1, 256] inb_S1x2048_S1x256_0_1280)))
    (k0_pay8 x0 x1 (View.ld w1 (Rect.unit ![0, 1536] ![512, 256] inb_S512x2048_S512x256_0_1536)) (View.ld x4 (Rect.unit ![0, 1536] ![1, 256] inb_S1x2048_S1x256_0_1536)) (View.ld x5 (Rect.unit ![0, 1536] ![1, 256] inb_S1x2048_S1x256_0_1536)))
    (View.ld w1 (Rect.unit ![0, 1792] ![512, 256] inb_S512x2048_S512x256_0_1792)) (View.ld x4 (Rect.unit ![0, 1792] ![1, 256] inb_S1x2048_S1x256_0_1792)) (View.ld x5 (Rect.unit ![0, 1792] ![1, 256] inb_S1x2048_S1x256_0_1792))

/-- The folded multiplier. -/
def mulB : FVec Ideal S1x2048 .f32 := k0_pay36 (gxB x0 x1 w1 x4 x5) (denB x0 x1 w1 x4 x5) x6

/-- Row block 0 of the activation, read back. -/
def v0 :=
  View.readCov (Val := Elt Ideal) (View.whole cc0_scratch2) (hsL x0 x1 w1 x4 x5) (Rect.unit ![0, 0] ![32, 2048] inb_S224x2048_S32x2048_0_0).toLoadRect

/-- Row block 1 of the activation, read back. -/
def v1 :=
  View.readCov (Val := Elt Ideal) (View.whole cc0_scratch2) (hsL x0 x1 w1 x4 x5) (Rect.unit ![32, 0] ![32, 2048] inb_S224x2048_S32x2048_32_0).toLoadRect

/-- Row block 2 of the activation, read back. -/
def v2 :=
  View.readCov (Val := Elt Ideal) (View.whole cc0_scratch2) (hsL x0 x1 w1 x4 x5) (Rect.unit ![64, 0] ![32, 2048] inb_S224x2048_S32x2048_64_0).toLoadRect

/-- Row block 3 of the activation, read back. -/
def v3 :=
  View.readCov (Val := Elt Ideal) (View.whole cc0_scratch2) (hsL x0 x1 w1 x4 x5) (Rect.unit ![96, 0] ![32, 2048] inb_S224x2048_S32x2048_96_0).toLoadRect

/-- Row block 4 of the activation, read back. -/
def v4 :=
  View.readCov (Val := Elt Ideal) (View.whole cc0_scratch2) (hsL x0 x1 w1 x4 x5) (Rect.unit ![128, 0] ![32, 2048] inb_S224x2048_S32x2048_128_0).toLoadRect

/-- Row block 5 of the activation, read back. -/
def v5 :=
  View.readCov (Val := Elt Ideal) (View.whole cc0_scratch2) (hsL x0 x1 w1 x4 x5) (Rect.unit ![160, 0] ![32, 2048] inb_S224x2048_S32x2048_160_0).toLoadRect

/-- Row block 6 of the activation, read back. -/
def v6 :=
  View.readCov (Val := Elt Ideal) (View.whole cc0_scratch2) (hsL x0 x1 w1 x4 x5) (Rect.unit ![192, 0] ![32, 2048] inb_S224x2048_S32x2048_192_0).toLoadRect

/-- The five output blocks. -/
def codesO : Vec Ideal S1x224x2048 .i8 :=
  View.canon (Val := Elt Ideal) [(⟨Rect.unit ![0, 192, 0] ![1, 32, 2048] inb_S1x224x2048_S1x32x2048_0_192_0,
      k0_pay50 (F := Ideal) (mulB x0 x1 w1 x4 x5 x6) (v6 x0 x1 w1 x4 x5) x7⟩ : View.Piece (Elt Ideal) S1x224x2048 _),
    ⟨Rect.unit ![0, 160, 0] ![1, 32, 2048] inb_S1x224x2048_S1x32x2048_0_160_0,
      k0_pay50 (F := Ideal) (mulB x0 x1 w1 x4 x5 x6) (v5 x0 x1 w1 x4 x5) x7⟩,
    ⟨Rect.unit ![0, 128, 0] ![1, 32, 2048] inb_S1x224x2048_S1x32x2048_0_128_0,
      k0_pay50 (F := Ideal) (mulB x0 x1 w1 x4 x5 x6) (v4 x0 x1 w1 x4 x5) x7⟩,
    ⟨Rect.unit ![0, 96, 0] ![1, 32, 2048] inb_S1x224x2048_S1x32x2048_0_96_0,
      k0_pay50 (F := Ideal) (mulB x0 x1 w1 x4 x5 x6) (v3 x0 x1 w1 x4 x5) x7⟩,
    ⟨Rect.unit ![0, 64, 0] ![1, 32, 2048] inb_S1x224x2048_S1x32x2048_0_64_0,
      k0_pay50 (F := Ideal) (mulB x0 x1 w1 x4 x5 x6) (v2 x0 x1 w1 x4 x5) x7⟩,
    ⟨Rect.unit ![0, 32, 0] ![1, 32, 2048] inb_S1x224x2048_S1x32x2048_0_32_0,
      k0_pay50 (F := Ideal) (mulB x0 x1 w1 x4 x5 x6) (v1 x0 x1 w1 x4 x5) x7⟩,
    ⟨Rect.unit ![0, 0, 0] ![1, 32, 2048] inb_S1x224x2048_S1x32x2048_0_0_0,
      k0_pay50 (F := Ideal) (mulB x0 x1 w1 x4 x5 x6) (v0 x0 x1 w1 x4 x5) x7⟩]

def scalesO : Vec Ideal S1x1x224 .f32 :=
  View.canon (Val := Elt Ideal) [(⟨Rect.unit ![0, 0, 192] ![1, 1, 32] inb_S1x1x224_S1x1x32_0_0_192,
      k0_pay51 (F := Ideal) (mulB x0 x1 w1 x4 x5 x6) (v6 x0 x1 w1 x4 x5) x7⟩ : View.Piece (Elt Ideal) S1x1x224 _),
    ⟨Rect.unit ![0, 0, 160] ![1, 1, 32] inb_S1x1x224_S1x1x32_0_0_160,
      k0_pay51 (F := Ideal) (mulB x0 x1 w1 x4 x5 x6) (v5 x0 x1 w1 x4 x5) x7⟩,
    ⟨Rect.unit ![0, 0, 128] ![1, 1, 32] inb_S1x1x224_S1x1x32_0_0_128,
      k0_pay51 (F := Ideal) (mulB x0 x1 w1 x4 x5 x6) (v4 x0 x1 w1 x4 x5) x7⟩,
    ⟨Rect.unit ![0, 0, 96] ![1, 1, 32] inb_S1x1x224_S1x1x32_0_0_96,
      k0_pay51 (F := Ideal) (mulB x0 x1 w1 x4 x5 x6) (v3 x0 x1 w1 x4 x5) x7⟩,
    ⟨Rect.unit ![0, 0, 64] ![1, 1, 32] inb_S1x1x224_S1x1x32_0_0_64,
      k0_pay51 (F := Ideal) (mulB x0 x1 w1 x4 x5 x6) (v2 x0 x1 w1 x4 x5) x7⟩,
    ⟨Rect.unit ![0, 0, 32] ![1, 1, 32] inb_S1x1x224_S1x1x32_0_0_32,
      k0_pay51 (F := Ideal) (mulB x0 x1 w1 x4 x5 x6) (v1 x0 x1 w1 x4 x5) x7⟩,
    ⟨Rect.unit ![0, 0, 0] ![1, 1, 32] inb_S1x1x224_S1x1x32_0_0_0,
      k0_pay51 (F := Ideal) (mulB x0 x1 w1 x4 x5 x6) (v0 x0 x1 w1 x4 x5) x7⟩]

def outO : Vec Ideal S1x224x512 .bf16 :=
  View.canon (Val := Elt Ideal) [(⟨Rect.unit ![0, 192, 0] ![1, 32, 512] inb_S1x224x512_S1x32x512_0_192_0,
      k0_pay45 (F := Ideal) (k0_pay48 (mulB x0 x1 w1 x4 x5 x6) (v6 x0 x1 w1 x4 x5) x7)
        (k0_pay49 (mulB x0 x1 w1 x4 x5 x6) (v6 x0 x1 w1 x4 x5) x7) w2 x9 x10
        (View.ld x2 (Rect.unit ![0, 192, 0] ![1, 32, 512] inb_S1x224x512_S1x32x512_0_192_0))⟩ : View.Piece (Elt Ideal) S1x224x512 _),
    ⟨Rect.unit ![0, 160, 0] ![1, 32, 512] inb_S1x224x512_S1x32x512_0_160_0,
      k0_pay45 (F := Ideal) (k0_pay48 (mulB x0 x1 w1 x4 x5 x6) (v5 x0 x1 w1 x4 x5) x7)
        (k0_pay49 (mulB x0 x1 w1 x4 x5 x6) (v5 x0 x1 w1 x4 x5) x7) w2 x9 x10
        (View.ld x2 (Rect.unit ![0, 160, 0] ![1, 32, 512] inb_S1x224x512_S1x32x512_0_160_0))⟩,
    ⟨Rect.unit ![0, 128, 0] ![1, 32, 512] inb_S1x224x512_S1x32x512_0_128_0,
      k0_pay45 (F := Ideal) (k0_pay48 (mulB x0 x1 w1 x4 x5 x6) (v4 x0 x1 w1 x4 x5) x7)
        (k0_pay49 (mulB x0 x1 w1 x4 x5 x6) (v4 x0 x1 w1 x4 x5) x7) w2 x9 x10
        (View.ld x2 (Rect.unit ![0, 128, 0] ![1, 32, 512] inb_S1x224x512_S1x32x512_0_128_0))⟩,
    ⟨Rect.unit ![0, 96, 0] ![1, 32, 512] inb_S1x224x512_S1x32x512_0_96_0,
      k0_pay45 (F := Ideal) (k0_pay48 (mulB x0 x1 w1 x4 x5 x6) (v3 x0 x1 w1 x4 x5) x7)
        (k0_pay49 (mulB x0 x1 w1 x4 x5 x6) (v3 x0 x1 w1 x4 x5) x7) w2 x9 x10
        (View.ld x2 (Rect.unit ![0, 96, 0] ![1, 32, 512] inb_S1x224x512_S1x32x512_0_96_0))⟩,
    ⟨Rect.unit ![0, 64, 0] ![1, 32, 512] inb_S1x224x512_S1x32x512_0_64_0,
      k0_pay45 (F := Ideal) (k0_pay48 (mulB x0 x1 w1 x4 x5 x6) (v2 x0 x1 w1 x4 x5) x7)
        (k0_pay49 (mulB x0 x1 w1 x4 x5 x6) (v2 x0 x1 w1 x4 x5) x7) w2 x9 x10
        (View.ld x2 (Rect.unit ![0, 64, 0] ![1, 32, 512] inb_S1x224x512_S1x32x512_0_64_0))⟩,
    ⟨Rect.unit ![0, 32, 0] ![1, 32, 512] inb_S1x224x512_S1x32x512_0_32_0,
      k0_pay45 (F := Ideal) (k0_pay48 (mulB x0 x1 w1 x4 x5 x6) (v1 x0 x1 w1 x4 x5) x7)
        (k0_pay49 (mulB x0 x1 w1 x4 x5 x6) (v1 x0 x1 w1 x4 x5) x7) w2 x9 x10
        (View.ld x2 (Rect.unit ![0, 32, 0] ![1, 32, 512] inb_S1x224x512_S1x32x512_0_32_0))⟩,
    ⟨Rect.unit ![0, 0, 0] ![1, 32, 512] inb_S1x224x512_S1x32x512_0_0_0,
      k0_pay45 (F := Ideal) (k0_pay48 (mulB x0 x1 w1 x4 x5 x6) (v0 x0 x1 w1 x4 x5) x7)
        (k0_pay49 (mulB x0 x1 w1 x4 x5 x6) (v0 x0 x1 w1 x4 x5) x7) w2 x9 x10
        (View.ld x2 (Rect.unit ![0, 0, 0] ![1, 32, 512] inb_S1x224x512_S1x32x512_0_0_0))⟩]

def ocO (os : Elt Ideal .f32) : Vec Ideal S1x224x512 .i8 :=
  View.canon (Val := Elt Ideal) [(⟨Rect.unit ![0, 192, 0] ![1, 32, 512] inb_S1x224x512_S1x32x512_0_192_0,
      k0_pay46 (F := Ideal) (k0_pay37 os) (k0_pay48 (mulB x0 x1 w1 x4 x5 x6) (v6 x0 x1 w1 x4 x5) x7)
        (k0_pay49 (mulB x0 x1 w1 x4 x5 x6) (v6 x0 x1 w1 x4 x5) x7) w2 x9 x10
        (View.ld x2 (Rect.unit ![0, 192, 0] ![1, 32, 512] inb_S1x224x512_S1x32x512_0_192_0))⟩ : View.Piece (Elt Ideal) S1x224x512 _),
    ⟨Rect.unit ![0, 160, 0] ![1, 32, 512] inb_S1x224x512_S1x32x512_0_160_0,
      k0_pay46 (F := Ideal) (k0_pay37 os) (k0_pay48 (mulB x0 x1 w1 x4 x5 x6) (v5 x0 x1 w1 x4 x5) x7)
        (k0_pay49 (mulB x0 x1 w1 x4 x5 x6) (v5 x0 x1 w1 x4 x5) x7) w2 x9 x10
        (View.ld x2 (Rect.unit ![0, 160, 0] ![1, 32, 512] inb_S1x224x512_S1x32x512_0_160_0))⟩,
    ⟨Rect.unit ![0, 128, 0] ![1, 32, 512] inb_S1x224x512_S1x32x512_0_128_0,
      k0_pay46 (F := Ideal) (k0_pay37 os) (k0_pay48 (mulB x0 x1 w1 x4 x5 x6) (v4 x0 x1 w1 x4 x5) x7)
        (k0_pay49 (mulB x0 x1 w1 x4 x5 x6) (v4 x0 x1 w1 x4 x5) x7) w2 x9 x10
        (View.ld x2 (Rect.unit ![0, 128, 0] ![1, 32, 512] inb_S1x224x512_S1x32x512_0_128_0))⟩,
    ⟨Rect.unit ![0, 96, 0] ![1, 32, 512] inb_S1x224x512_S1x32x512_0_96_0,
      k0_pay46 (F := Ideal) (k0_pay37 os) (k0_pay48 (mulB x0 x1 w1 x4 x5 x6) (v3 x0 x1 w1 x4 x5) x7)
        (k0_pay49 (mulB x0 x1 w1 x4 x5 x6) (v3 x0 x1 w1 x4 x5) x7) w2 x9 x10
        (View.ld x2 (Rect.unit ![0, 96, 0] ![1, 32, 512] inb_S1x224x512_S1x32x512_0_96_0))⟩,
    ⟨Rect.unit ![0, 64, 0] ![1, 32, 512] inb_S1x224x512_S1x32x512_0_64_0,
      k0_pay46 (F := Ideal) (k0_pay37 os) (k0_pay48 (mulB x0 x1 w1 x4 x5 x6) (v2 x0 x1 w1 x4 x5) x7)
        (k0_pay49 (mulB x0 x1 w1 x4 x5 x6) (v2 x0 x1 w1 x4 x5) x7) w2 x9 x10
        (View.ld x2 (Rect.unit ![0, 64, 0] ![1, 32, 512] inb_S1x224x512_S1x32x512_0_64_0))⟩,
    ⟨Rect.unit ![0, 32, 0] ![1, 32, 512] inb_S1x224x512_S1x32x512_0_32_0,
      k0_pay46 (F := Ideal) (k0_pay37 os) (k0_pay48 (mulB x0 x1 w1 x4 x5 x6) (v1 x0 x1 w1 x4 x5) x7)
        (k0_pay49 (mulB x0 x1 w1 x4 x5 x6) (v1 x0 x1 w1 x4 x5) x7) w2 x9 x10
        (View.ld x2 (Rect.unit ![0, 32, 0] ![1, 32, 512] inb_S1x224x512_S1x32x512_0_32_0))⟩,
    ⟨Rect.unit ![0, 0, 0] ![1, 32, 512] inb_S1x224x512_S1x32x512_0_0_0,
      k0_pay46 (F := Ideal) (k0_pay37 os) (k0_pay48 (mulB x0 x1 w1 x4 x5 x6) (v0 x0 x1 w1 x4 x5) x7)
        (k0_pay49 (mulB x0 x1 w1 x4 x5 x6) (v0 x0 x1 w1 x4 x5) x7) w2 x9 x10
        (View.ld x2 (Rect.unit ![0, 0, 0] ![1, 32, 512] inb_S1x224x512_S1x32x512_0_0_0))⟩]

variable {x0 x1 x2 w1 x4 x5 x6 x7 w2 x9 x10 x11}
variable {I : Image} (H : Holds I x0 x1 x2 w1 x4 x5 x6 x7 w2 x9 x10 x11)
include H

/-- A chunk of the first weight matrix. -/
theorem w_at (c : Fin 8) (o : Nat) (ho : o = 256 * c.val) (inb) (k : Fin 512) (j : Fin 256) :
    View.ld w1 (Rect.unit ![0, o] ![512, 256] inb) (ix2 k j) = I.W1 k (col c j) :=
  (View.ld_unit_apply_of w1 _ _ inb (ix2 k j) (ix2 k (col c j)) (fun a => by subst ho; fin_cases a <;> simp [col])).trans (H.h3 k (col c j))

/-- A chunk of its scales, and of the bias. -/
theorem ws_at (c : Fin 8) (o : Nat) (ho : o = 256 * c.val) (inb) (j : Fin 256) :
    View.ld x4 (Rect.unit ![0, o] ![1, 256] inb) (ix2 0 j) = I.ws1 (col c j) :=
  (View.ld_unit_apply_of x4 _ _ inb (ix2 0 j) (ix2 0 (col c j)) (fun a => by subst ho; fin_cases a <;> simp [col])).trans (H.h4 (col c j))

theorem b_at (c : Fin 8) (o : Nat) (ho : o = 256 * c.val) (inb) (j : Fin 256) :
    View.ld x5 (Rect.unit ![0, o] ![1, 256] inb) (ix2 0 j) = I.b1 (col c j) :=
  (View.ld_unit_apply_of x5 _ _ inb (ix2 0 j) (ix2 0 (col c j)) (fun a => by subst ho; fin_cases a <;> simp [col])).trans (H.h5 (col c j))

/-- A chunk of the activation, as computed, as stored, and its sums of squares. -/
theorem act_at (c : Fin 8) (o : Nat) (ho : o = 256 * c.val) (inb inb' inb'') (p : Fin 224) (j : Fin 256) :
    k0_pay6 (F := Ideal) x0 x1 (View.ld w1 (Rect.unit ![0, o] ![512, 256] inb)) (View.ld x4 (Rect.unit ![0, o] ![1, 256] inb'))
      (View.ld x5 (Rect.unit ![0, o] ![1, 256] inb'')) (ix2 p j) = I.hp p (col c j) :=
  chunk_at I x0 x1 c H.h0 H.h1 _ _ _ (w_at H c o ho inb) (ws_at H c o ho inb') (b_at H c o ho inb'') p j

theorem st_at (c : Fin 8) (o : Nat) (ho : o = 256 * c.val) (inb inb' inb'') (p : Fin 224) (j : Fin 256) :
    k0_pay7 (F := Ideal) x0 x1 (View.ld w1 (Rect.unit ![0, o] ![512, 256] inb)) (View.ld x4 (Rect.unit ![0, o] ![1, 256] inb'))
      (View.ld x5 (Rect.unit ![0, o] ![1, 256] inb'')) (ix2 p j) = I.hp p (col c j) := by
  unfold k0_pay7; pointwise
  exact act_at H c o ho inb inb' inb'' p j

theorem sq_at (c : Fin 8) (o : Nat) (ho : o = 256 * c.val) (inb inb' inb'') (j : Fin 256) :
    k0_pay8 (F := Ideal) x0 x1 (View.ld w1 (Rect.unit ![0, o] ![512, 256] inb)) (View.ld x4 (Rect.unit ![0, o] ![1, 256] inb'))
      (View.ld x5 (Rect.unit ![0, o] ![1, 256] inb'')) (ix2 0 j) = ∑ p, I.hp p (col c j) * I.hp p (col c j) :=
  chunkSum_at I x0 x1 c H.h0 H.h1 _ _ _ (w_at H c o ho inb) (ws_at H c o ho inb') (b_at H c o ho inb'') j

/-- The response row's entries. -/
theorem gxB_at (n : Fin 2048) : gxB x0 x1 w1 x4 x5 (ix2 0 n) = I.gx n :=
  gx_at I _ _ _ _ _ _ _ _ _ _ _ _ (sq_at H 0 0 rfl _ _ _) (sq_at H 1 256 rfl _ _ _) (sq_at H 2 512 rfl _ _ _) (sq_at H 3 768 rfl _ _ _)
    (sq_at H 4 1024 rfl _ _ _) (sq_at H 5 1280 rfl _ _ _) (sq_at H 6 1536 rfl _ _ _)
    (fun p j => (congrFun (form31 x0 x1 _ _ _) _).trans (act_at H 7 1792 rfl _ _ _ p j)) n

theorem gxO_at (n : Fin 2048) : gxO x0 x1 w1 x4 x5 (ix3 0 0 n) = I.gx n :=
  (gxOut_at _ _ _ _ _ _ _ _ _ _ _ _ n).trans (gxB_at H n)

theorem mulB_at (n : Fin 2048) : mulB x0 x1 w1 x4 x5 x6 (ix2 0 n) = (I.gam n * I.nx n + 1) * kap :=
  mul_at I _ _ _ (gxB_at H) (den_at I _ _ _ _ _ _ _ _ _ _ _ _ (gxB_at H)) H.h6 n

/-- The activation scratch's entries. -/
theorem hsL_at (p : Fin 224) (n : Fin 2048) : View.canon (hsL x0 x1 w1 x4 x5) (ix2 p n) = I.hp p n :=
  colsL (e := .f32) _ _ _ _ _ _ _ _ I.hp (st_at H 0 0 rfl _ _ _) (st_at H 1 256 rfl _ _ _) (st_at H 2 512 rfl _ _ _) (st_at H 3 768 rfl _ _ _)
    (st_at H 4 1024 rfl _ _ _) (st_at H 5 1280 rfl _ _ _) (st_at H 6 1536 rfl _ _ _) (st_at H 7 1792 rfl _ _ _) p n

/-- A row block read back. -/
theorem vrow_at (i : Fin 7) (o : Nat) (ho : o = 32 * i.val) (inb : ∀ a : Fin 2, (![o, 0] a : Nat) + ![32, 2048] a ≤ S224x2048.size a) (p : Fin 32) (n : Fin 2048) :
    View.readCov (Val := Elt Ideal) (View.whole cc0_scratch2) (hsL x0 x1 w1 x4 x5) (Rect.unit ![o, 0] ![32, 2048] inb : Rect S224x2048).toLoadRect (ix2 p n)
      = I.hp (row i p) n := by
  rw [View.readCov_eq_canon']
  refine (congrArg (View.canon (hsL x0 x1 w1 x4 x5)) (?_ : _ = ix2 (row i p) n)).trans (hsL_at H (row i p) n)
  funext a; subst ho; apply Fin.ext
  fin_cases a <;> simp [row]

/-- A row block of the residual input. -/
theorem x_at (i : Fin 7) (o : Nat) (ho : o = 32 * i.val) (inb) (p : Fin 32) (k : Fin 512) :
    View.ld x2 (Rect.unit ![0, o, 0] ![1, 32, 512] inb) (ix3 0 p k) = I.X (row i p) k :=
  (View.ld_unit_apply_of x2 _ _ inb (ix3 0 p k) (ix3 0 (row i p) k) (fun a => by subst ho; fin_cases a <;> simp [row])).trans (H.h2 (row i p) k)

theorem v0_at (p : Fin 32) (n : Fin 2048) : v0 x0 x1 w1 x4 x5 (ix2 p n) = I.hp (row 0 p) n := vrow_at H 0 0 rfl _ p n
theorem v1_at (p : Fin 32) (n : Fin 2048) : v1 x0 x1 w1 x4 x5 (ix2 p n) = I.hp (row 1 p) n := vrow_at H 1 32 rfl _ p n
theorem v2_at (p : Fin 32) (n : Fin 2048) : v2 x0 x1 w1 x4 x5 (ix2 p n) = I.hp (row 2 p) n := vrow_at H 2 64 rfl _ p n
theorem v3_at (p : Fin 32) (n : Fin 2048) : v3 x0 x1 w1 x4 x5 (ix2 p n) = I.hp (row 3 p) n := vrow_at H 3 96 rfl _ p n
theorem v4_at (p : Fin 32) (n : Fin 2048) : v4 x0 x1 w1 x4 x5 (ix2 p n) = I.hp (row 4 p) n := vrow_at H 4 128 rfl _ p n
theorem v5_at (p : Fin 32) (n : Fin 2048) : v5 x0 x1 w1 x4 x5 (ix2 p n) = I.hp (row 5 p) n := vrow_at H 5 160 rfl _ p n
theorem v6_at (p : Fin 32) (n : Fin 2048) : v6 x0 x1 w1 x4 x5 (ix2 p n) = I.hp (row 6 p) n := vrow_at H 6 192 rfl _ p n

/-- The hidden codes. -/
theorem codesO_at (p : Fin 224) (n : Fin 2048) : codesO x0 x1 w1 x4 x5 x6 x7 (ix3 0 p n) = Ideal.fptosi 8 (I.Q p n) := by
  unfold codesO
  refine rows2048 (e := .i8) _ _ _ _ _ _ _ (fun p n => Ideal.fptosi 8 (I.Q p n)) ?_ ?_ ?_ ?_ ?_ ?_ ?_ p n
  · intro p k; exact codes_at I _ (mulB_at H) _ _ 0 (v0_at H) H.h7 p k
  · intro p k; exact codes_at I _ (mulB_at H) _ _ 1 (v1_at H) H.h7 p k
  · intro p k; exact codes_at I _ (mulB_at H) _ _ 2 (v2_at H) H.h7 p k
  · intro p k; exact codes_at I _ (mulB_at H) _ _ 3 (v3_at H) H.h7 p k
  · intro p k; exact codes_at I _ (mulB_at H) _ _ 4 (v4_at H) H.h7 p k
  · intro p k; exact codes_at I _ (mulB_at H) _ _ 5 (v5_at H) H.h7 p k
  · intro p k; exact codes_at I _ (mulB_at H) _ _ 6 (v6_at H) H.h7 p k

/-- Their scales. -/
theorem scalesO_at (p : Fin 224) : scalesO x0 x1 w1 x4 x5 x6 x7 (ix3 0 0 p) = I.S p := by
  unfold scalesO
  refine rowsS (e := .f32) _ _ _ _ _ _ _ I.S ?_ ?_ ?_ ?_ ?_ ?_ ?_ p
  · intro p; exact scales_at I _ (mulB_at H) _ _ 0 (v0_at H) H.h7 p
  · intro p; exact scales_at I _ (mulB_at H) _ _ 1 (v1_at H) H.h7 p
  · intro p; exact scales_at I _ (mulB_at H) _ _ 2 (v2_at H) H.h7 p
  · intro p; exact scales_at I _ (mulB_at H) _ _ 3 (v3_at H) H.h7 p
  · intro p; exact scales_at I _ (mulB_at H) _ _ 4 (v4_at H) H.h7 p
  · intro p; exact scales_at I _ (mulB_at H) _ _ 5 (v5_at H) H.h7 p
  · intro p; exact scales_at I _ (mulB_at H) _ _ 6 (v6_at H) H.h7 p

/-- The output. -/
theorem outO_at (p : Fin 224) (k : Fin 512) : outO x0 x1 x2 w1 x4 x5 x6 x7 w2 x9 x10 (ix3 0 p k) = I.R p k := by
  unfold outO
  refine rows512 (e := .bf16) _ _ _ _ _ _ _ I.R ?_ ?_ ?_ ?_ ?_ ?_ ?_ p k
  · intro p k; exact out_at I _ (mulB_at H) _ _ 0 (v0_at H) H.h7 _ _ _ _ H.h8 H.h9 H.h10 (x_at H 0 0 rfl _) p k
  · intro p k; exact out_at I _ (mulB_at H) _ _ 1 (v1_at H) H.h7 _ _ _ _ H.h8 H.h9 H.h10 (x_at H 1 32 rfl _) p k
  · intro p k; exact out_at I _ (mulB_at H) _ _ 2 (v2_at H) H.h7 _ _ _ _ H.h8 H.h9 H.h10 (x_at H 2 64 rfl _) p k
  · intro p k; exact out_at I _ (mulB_at H) _ _ 3 (v3_at H) H.h7 _ _ _ _ H.h8 H.h9 H.h10 (x_at H 3 96 rfl _) p k
  · intro p k; exact out_at I _ (mulB_at H) _ _ 4 (v4_at H) H.h7 _ _ _ _ H.h8 H.h9 H.h10 (x_at H 4 128 rfl _) p k
  · intro p k; exact out_at I _ (mulB_at H) _ _ 5 (v5_at H) H.h7 _ _ _ _ H.h8 H.h9 H.h10 (x_at H 5 160 rfl _) p k
  · intro p k; exact out_at I _ (mulB_at H) _ _ 6 (v6_at H) H.h7 _ _ _ _ H.h8 H.h9 H.h10 (x_at H 6 192 rfl _) p k

/-- The output codes. -/
theorem ocO_at (os : Elt Ideal .f32) (ho : os = I.os) (h : I.os ≠ 0) (p : Fin 224) (k : Fin 512) :
    ocO x0 x1 x2 w1 x4 x5 x6 x7 w2 x9 x10 os (ix3 0 p k) = Ideal.fptosi 8 (I.O p k) := by
  unfold ocO
  refine rows512 (e := .i8) _ _ _ _ _ _ _ (fun p k => Ideal.fptosi 8 (I.O p k)) ?_ ?_ ?_ ?_ ?_ ?_ ?_ p k
  · intro p k; exact oc_at I _ (mulB_at H) _ _ 0 (v0_at H) H.h7 _ _ _ _ H.h8 H.h9 H.h10 (x_at H 0 0 rfl _) os ho h p k
  · intro p k; exact oc_at I _ (mulB_at H) _ _ 1 (v1_at H) H.h7 _ _ _ _ H.h8 H.h9 H.h10 (x_at H 1 32 rfl _) os ho h p k
  · intro p k; exact oc_at I _ (mulB_at H) _ _ 2 (v2_at H) H.h7 _ _ _ _ H.h8 H.h9 H.h10 (x_at H 2 64 rfl _) os ho h p k
  · intro p k; exact oc_at I _ (mulB_at H) _ _ 3 (v3_at H) H.h7 _ _ _ _ H.h8 H.h9 H.h10 (x_at H 3 96 rfl _) os ho h p k
  · intro p k; exact oc_at I _ (mulB_at H) _ _ 4 (v4_at H) H.h7 _ _ _ _ H.h8 H.h9 H.h10 (x_at H 4 128 rfl _) os ho h p k
  · intro p k; exact oc_at I _ (mulB_at H) _ _ 5 (v5_at H) H.h7 _ _ _ _ H.h8 H.h9 H.h10 (x_at H 5 160 rfl _) os ho h p k
  · intro p k; exact oc_at I _ (mulB_at H) _ _ 6 (v6_at H) H.h7 _ _ _ _ H.h8 H.h9 H.h10 (x_at H 6 192 rfl _) os ho h p k

end Block

end Cert.Blk

end
-- ==== Proof.Run.lean ====
/- Hand-written, untrusted: WHAT THE KERNEL LEAVES. The blocks that the windows read are an image's arguments; the weights' casts
   stay in the scratches from the first point on; so each result array is the model's function of its image, index by index. -/
module
public import proofs.«01_k».proof.Proof.Gen.KernelIdeal.Value
public import proofs.«01_k».proof.Proof.Blk
public import Idealize.ShloMosaic.Lib.Claim
public import Idealize.ShloMosaic.Lib.Pipeline.ReadBack

@[expose] public section
set_option maxRecDepth 16384

noncomputable section

namespace Cert.Run

open Cert.KernelIdeal Cert.KernelIdeal.Gen Idealize.ShloMosaic Idealize.ShloMosaic.TcCoe Idealize.SL.Sem
open Idealize.ShloMosaic.Pointwise Cert.Model Cert.Blk Cert.Pay Cert.KernelIdeal.Value
variable (m : (ℓ : Loc nD τ sig) → Buf (Elt Ideal) ℓ)

/-- The windows' index maps. -/
theorem idx : ∀ t : Fin cfg0.N, win0_0.index t = ![t.val, 0, 0] ∧ win0_1.index t = ![t.val, 0, 0] ∧ win0_2.index t = ![t.val, 0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![t.val, 0, 0] ∧ win0_13.index t = ![t.val, 0, 0] ∧ win0_14.index t = ![t.val, 0, 0]
    ∧ win0_15.index t = ![t.val, 0, 0] ∧ win0_16.index t = ![t.val, 0, 0] :=
  (by decide +kernel : ∀ t : Fin grid0.N, _)

/-- A grid point's image. -/
abbrev im (t : Fin cfg0.N) : Fin 128 := ⟨t.val, lt_of_lt_of_eq t.isLt N_0⟩

/-- Image `t` of the arguments. -/
abbrev img (c : Dev nD) (i : Fin 128) : Image :=
  image (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) i

/-- The windows' blocks, read at an index of the arguments. -/
theorem i3 (c : Dev nD) (t : Fin cfg0.N) : iblk m c 3 t = m ((c : Thread nD τ).loc main_arg3) := by
  funext x; blk_ext [iblk, V, idx t]
theorem i8 (c : Dev nD) (t : Fin cfg0.N) : iblk m c 8 t = m ((c : Thread nD τ).loc main_arg8) := by
  funext x; blk_ext [iblk, V, idx t]

theorem i0 (c : Dev nD) (t : Fin cfg0.N) (p : Fin 224) (k : Fin 512) : iblk m c 0 t (ix3 0 p k) = m ((c : Thread nD τ).loc main_arg0) (ix4 (im t) (rowY p) (rowX p) k) := by
  blk_simp [iblk]; entry_read; pointwise
  blk_ext [idx t, im, rowY, rowX]

theorem i1 (c : Dev nD) (t : Fin cfg0.N) (p : Fin 224) : iblk m c 1 t (ix3 0 0 p) = m ((c : Thread nD τ).loc main_arg1) (ix3 (im t) (rowY p) (rowX p)) := by
  blk_simp [iblk]; entry_read; pointwise
  blk_ext [idx t, im, rowY, rowX]

theorem i2 (c : Dev nD) (t : Fin cfg0.N) (p : Fin 224) (k : Fin 512) : iblk m c 2 t (ix3 0 p k) = m ((c : Thread nD τ).loc main_arg2) (ix4 (im t) (rowY p) (rowX p) k) := by
  blk_simp [iblk]; entry_read; pointwise
  blk_ext [idx t, im, rowY, rowX]

theorem i4 (c : Dev nD) (t : Fin cfg0.N) (n : Fin 2048) : iblk m c 4 t (ix2 0 n) = m ((c : Thread nD τ).loc main_arg4) (ix1 n) := by
  blk_simp [iblk]; entry_read; pointwise
  blk_ext [idx t, im, rowY, rowX]

theorem i5 (c : Dev nD) (t : Fin cfg0.N) (n : Fin 2048) : iblk m c 5 t (ix2 0 n) = m ((c : Thread nD τ).loc main_arg5) (ix1 n) := by
  blk_simp [iblk]; entry_read; pointwise
  blk_ext [idx t, im, rowY, rowX]

theorem i6 (c : Dev nD) (t : Fin cfg0.N) (n : Fin 2048) : iblk m c 6 t (ix2 0 n) = m ((c : Thread nD τ).loc main_arg6) (ix1 n) := by
  blk_simp [iblk]; entry_read; pointwise
  blk_ext [idx t, im, rowY, rowX]

theorem i7 (c : Dev nD) (t : Fin cfg0.N) (n : Fin 2048) : iblk m c 7 t (ix2 0 n) = m ((c : Thread nD τ).loc main_arg7) (ix1 n) := by
  blk_simp [iblk]; entry_read; pointwise
  blk_ext [idx t, im, rowY, rowX]

theorem i9 (c : Dev nD) (t : Fin cfg0.N) (k : Fin 512) : iblk m c 9 t (ix2 0 k) = m ((c : Thread nD τ).loc main_arg9) (ix1 k) := by
  blk_simp [iblk]; entry_read; pointwise
  blk_ext [idx t, im, rowY, rowX]

theorem i10 (c : Dev nD) (t : Fin cfg0.N) (k : Fin 512) : iblk m c 10 t (ix2 0 k) = m ((c : Thread nD τ).loc main_arg10) (ix1 k) := by
  blk_simp [iblk]; entry_read; pointwise
  blk_ext [idx t, im, rowY, rowX]

theorem i11 (c : Dev nD) (t : Fin cfg0.N)  : iblk m c 11 t (ix2 0 0) = m ((c : Thread nD τ).loc main_arg11) (ix0) := by
  blk_simp [iblk]; entry_read; pointwise
  blk_ext [idx t, im, rowY, rowX]

/-- The blocks at a point hold that point's image. -/
theorem holds (c : Dev nD) (t : Fin cfg0.N) : Holds (img m c (im t)) (iblk m c 0 t) (iblk m c 1 t) (iblk m c 2 t)
    (k0_pay2 (m ((c : Thread nD τ).loc main_arg3))) (iblk m c 4 t) (iblk m c 5 t) (iblk m c 6 t) (iblk m c 7 t)
    (k0_pay3 (m ((c : Thread nD τ).loc main_arg8))) (iblk m c 9 t) (iblk m c 10 t) (iblk m c 11 t) where
  h0 p k := congrArg cv (i0 m c t p k)
  h1 p := i1 m c t p
  h2 p k := i2 m c t p k
  h3 k n := pay2_at _ k n
  h4 n := i4 m c t n
  h5 n := i5 m c t n
  h6 n := i6 m c t n
  h7 n := i7 m c t n
  h8 n k := pay3_at _ n k
  h9 k := i9 m c t k
  h10 k := i10 m c t k
  h11 := i11 m c t

/-! ## The scratches keep the weights' casts -/

theorem s1A (c : Dev nD) (t : Fin cfg0.N) (h0 : t.val % 128 = 0) : (outsAt0 m c t.val t.isLt).2.2.2.2.2.1 = k0_pay2 (iblk m c 3 t) := by
  rw [outsAt0_A m c t h0]; dsimp only; frame_out

theorem s1B (c : Dev nD) (t : Fin cfg0.N) (h0 : ¬ t.val % 128 = 0) :
    (outsAt0 m c t.val t.isLt).2.2.2.2.2.1 = (outsAt0 m c (t.val - 1) (lt_of_le_of_lt (Nat.sub_le _ _) t.isLt)).2.2.2.2.2.1 := by
  rw [outsAt0_B m c t h0]; rfl

theorem s2A (c : Dev nD) (t : Fin cfg0.N) (h0 : t.val % 128 = 0) : (outsAt0 m c t.val t.isLt).2.2.2.2.2.2 = k0_pay3 (iblk m c 8 t) := by
  rw [outsAt0_A m c t h0]; dsimp only; frame_out

theorem s2B (c : Dev nD) (t : Fin cfg0.N) (h0 : ¬ t.val % 128 = 0) :
    (outsAt0 m c t.val t.isLt).2.2.2.2.2.2 = (outsAt0 m c (t.val - 1) (lt_of_le_of_lt (Nat.sub_le _ _) t.isLt)).2.2.2.2.2.2 := by
  rw [outsAt0_B m c t h0]; rfl

/-- The first scratch after any point: the first weights' cast. -/
theorem s1 (c : Dev nD) : ∀ (n : Nat) (hn : n < cfg0.N), (outsAt0 m c n hn).2.2.2.2.2.1 = k0_pay2 (m ((c : Thread nD τ).loc main_arg3))
  | 0, hn => by rw [s1A m c ⟨0, hn⟩ rfl, i3]
  | n + 1, hn => by
    by_cases h : (n + 1) % 128 = 0
    · rw [s1A m c ⟨n + 1, hn⟩ h, i3]
    · rw [s1B m c ⟨n + 1, hn⟩ h]; exact s1 c n (Nat.lt_of_succ_lt hn)

/-- The second scratch after any point: the second weights' cast. -/
theorem s2 (c : Dev nD) : ∀ (n : Nat) (hn : n < cfg0.N), (outsAt0 m c n hn).2.2.2.2.2.2 = k0_pay3 (m ((c : Thread nD τ).loc main_arg8))
  | 0, hn => by rw [s2A m c ⟨0, hn⟩ rfl, i8]
  | n + 1, hn => by
    by_cases h : (n + 1) % 128 = 0
    · rw [s2A m c ⟨n + 1, hn⟩ h, i8]
    · rw [s2B m c ⟨n + 1, hn⟩ h]; exact s2 c n (Nat.lt_of_succ_lt hn)

/-! ## The blocks left at a point -/

/-- The output. -/
theorem after12 (c : Dev nD) (t : Fin cfg0.N) :
    (dats m 0 c).after 12 t = outO (iblk m c 0 t) (iblk m c 1 t) (iblk m c 2 t) (k0_pay2 (m ((c : Thread nD τ).loc main_arg3))) (iblk m c 4 t) (iblk m c 5 t) (iblk m c 6 t) (iblk m c 7 t) (k0_pay3 (m ((c : Thread nD τ).loc main_arg8))) (iblk m c 9 t) (iblk m c 10 t) := by
  rw [← i3 m c t, ← i8 m c t]
  by_cases h : t.val % 128 = 0
  · rw [after0_12, outsAt0_A m c t h]; dsimp only; frame_out
    simp only [readCov_whole, form10, form11, form15, form16, form18, form19, form21, form22, form26, form27, form29, form30, form32]
    simp only [row45, row55, row67, row76, row86, row97, row106]
    rfl
  · rw [after0_12, outsAt0_B m c t h]; dsimp only; frame_out
    simp only [read_unread_whole, s1, s2, i3, i8, form10, form11, form15, form16, form18, form19, form21, form22, form26, form27, form29, form30, form32]
    simp only [row45, row55, row67, row76, row86, row97, row106]
    rfl

/-- The output codes. -/
theorem after13 (c : Dev nD) (t : Fin cfg0.N) :
    (dats m 0 c).after 13 t = ocO (iblk m c 0 t) (iblk m c 1 t) (iblk m c 2 t) (k0_pay2 (m ((c : Thread nD τ).loc main_arg3))) (iblk m c 4 t) (iblk m c 5 t) (iblk m c 6 t) (iblk m c 7 t) (k0_pay3 (m ((c : Thread nD τ).loc main_arg8))) (iblk m c 9 t) (iblk m c 10 t)
      (View.ld (iblk m c 11 t) (Rect.unit ![0, 0] ![1, 1] inb_S1x1_S1x1_0_0) (Shape.Idx.first (numel1_S1x1.symm ▸ Nat.one_pos))) := by
  rw [← i3 m c t, ← i8 m c t]
  by_cases h : t.val % 128 = 0
  · rw [after0_13, outsAt0_A m c t h]; dsimp only; frame_out
    simp only [readCov_whole, form10, form11, form15, form16, form18, form19, form21, form22, form26, form27, form29, form30, form32]
    simp only [row46, row56, row68, row78, row87, row98, row1]
    rfl
  · rw [after0_13, outsAt0_B m c t h]; dsimp only; frame_out
    simp only [read_unread_whole, s1, s2, i3, i8, form10, form11, form15, form16, form18, form19, form21, form22, form26, form27, form29, form30, form32]
    simp only [row46, row56, row68, row78, row87, row98, row1]
    rfl

/-- The response row. -/
theorem after14 (c : Dev nD) (t : Fin cfg0.N) :
    (dats m 0 c).after 14 t = gxO (iblk m c 0 t) (iblk m c 1 t) (k0_pay2 (m ((c : Thread nD τ).loc main_arg3))) (iblk m c 4 t) (iblk m c 5 t) := by
  rw [← i3 m c t]
  by_cases h : t.val % 128 = 0
  · rw [after0_14, outsAt0_A m c t h]; dsimp only; frame_out
    simp only [readCov_whole, form10, form11, form15, form16, form18, form19, form21, form22, form26, form27, form29, form30, form32]
    rfl
  · rw [after0_14, outsAt0_B m c t h]; dsimp only; frame_out
    simp only [read_unread_whole, s1, s2, i3, i8, form10, form11, form15, form16, form18, form19, form21, form22, form26, form27, form29, form30, form32]
    rfl

/-- The hidden codes. -/
theorem after15 (c : Dev nD) (t : Fin cfg0.N) :
    (dats m 0 c).after 15 t = codesO (iblk m c 0 t) (iblk m c 1 t) (k0_pay2 (m ((c : Thread nD τ).loc main_arg3))) (iblk m c 4 t) (iblk m c 5 t) (iblk m c 6 t) (iblk m c 7 t) := by
  rw [← i3 m c t]
  by_cases h : t.val % 128 = 0
  · rw [after0_15, outsAt0_A m c t h]; dsimp only; frame_out
    simp only [readCov_whole, form10, form11, form15, form16, form18, form19, form21, form22, form26, form27, form29, form30, form32]
    simp only [row41, row63, row73, row82, row93, row103]
    rfl
  · rw [after0_15, outsAt0_B m c t h]; dsimp only; frame_out
    simp only [read_unread_whole, s1, s2, i3, i8, form10, form11, form15, form16, form18, form19, form21, form22, form26, form27, form29, form30, form32]
    simp only [row41, row63, row73, row82, row93, row103]
    rfl

/-- The hidden scales. -/
theorem after16 (c : Dev nD) (t : Fin cfg0.N) :
    (dats m 0 c).after 16 t = scalesO (iblk m c 0 t) (iblk m c 1 t) (k0_pay2 (m ((c : Thread nD τ).loc main_arg3))) (iblk m c 4 t) (iblk m c 5 t) (iblk m c 6 t) (iblk m c 7 t) := by
  rw [← i3 m c t]
  by_cases h : t.val % 128 = 0
  · rw [after0_16, outsAt0_A m c t h]; dsimp only; frame_out
    simp only [readCov_whole, form10, form11, form15, form16, form18, form19, form21, form22, form26, form27, form29, form30, form32]
    simp only [row43, row64, row74, row83, row94, row104]
    rfl
  · rw [after0_16, outsAt0_B m c t h]; dsimp only; frame_out
    simp only [read_unread_whole, s1, s2, i3, i8, form10, form11, form15, form16, form18, form19, form21, form22, form26, form27, form29, form30, form32]
    simp only [row43, row64, row74, row83, row94, row104]
    rfl

/-! ## The result arrays -/

/-- The scale that the output codes divide by, as loaded. -/
theorem os_at (c : Dev nD) (t : Fin cfg0.N) : View.ld (iblk m c 11 t) (Rect.unit ![0, 0] ![1, 1] inb_S1x1_S1x1_0_0) (Shape.Idx.first (numel1_S1x1.symm ▸ Nat.one_pos)) = (img m c (im t)).os := by
  refine Eq.trans ?_ (i11 m c t)
  rw [View.ld_apply]
  congr 1
  funext a; apply Fin.ext
  fin_cases a <;> rfl

/-- The output. -/
theorem arr12 (c : Dev nD) : G12 m c = fun y => (img m c (y 0)).R (y 1) (y 2) := by
  rw [← final12]
  refine (dats m 0 c).arrAt_eq_of_covers 12 _ (by decide +kernel) fun t _ y => ?_
  blk_simp [idx t]
  rw [after12]
  have e : (win0_12.blk t).view.emb y = ix3 (im t) (y 1 : Fin 224) (y 2 : Fin 512) := by
    blk_ext [idx t, im]
  rw [e]
  exact (congrArg _ (eq_ix3_0 y)).trans (outO_at (holds m c t) (y 1) (y 2))

/-- The output codes. -/
theorem arr13 (c : Dev nD) (h : (m ((c : Thread nD τ).loc main_arg11)) ix0 ≠ (0 : EReal)) : G13 m c = fun y => Ideal.fptosi 8 ((img m c (y 0)).O (y 1) (y 2)) := by
  rw [← final13]
  refine (dats m 0 c).arrAt_eq_of_covers 13 _ (by decide +kernel) fun t _ y => ?_
  blk_simp [idx t]
  rw [after13]
  have e : (win0_13.blk t).view.emb y = ix3 (im t) (y 1 : Fin 224) (y 2 : Fin 512) := by
    blk_ext [idx t, im]
  rw [e]
  exact (congrArg _ (eq_ix3_0 y)).trans (ocO_at (holds m c t) _ (os_at m c t) h (y 1) (y 2))

/-- The response row. -/
theorem arr14 (c : Dev nD) : G14 m c = fun y => (img m c (y 0)).gx (y 2) := by
  rw [← final14]
  refine (dats m 0 c).arrAt_eq_of_covers 14 _ (by decide +kernel) fun t _ y => ?_
  blk_simp [idx t]
  rw [after14]
  have e : (win0_14.blk t).view.emb y = ix3 (im t) (y 1 : Fin 1) (y 2 : Fin 2048) := by
    blk_ext [idx t, im]
  rw [e]
  exact (congrArg _ (eq_ix3_00 y)).trans (gxO_at (holds m c t) (y 2))

/-- The hidden codes. -/
theorem arr15 (c : Dev nD) : G15 m c = fun y => Ideal.fptosi 8 ((img m c (y 0)).Q (y 1) (y 2)) := by
  rw [← final15]
  refine (dats m 0 c).arrAt_eq_of_covers 15 _ (by decide +kernel) fun t _ y => ?_
  blk_simp [idx t]
  rw [after15]
  have e : (win0_15.blk t).view.emb y = ix3 (im t) (y 1 : Fin 224) (y 2 : Fin 2048) := by
    blk_ext [idx t, im]
  rw [e]
  exact (congrArg _ (eq_ix3_0 y)).trans (codesO_at (holds m c t) (y 1) (y 2))

/-- The hidden scales. -/
theorem arr16 (c : Dev nD) : G16 m c = fun y => (img m c (y 0)).S (y 2) := by
  rw [← final16]
  refine (dats m 0 c).arrAt_eq_of_covers 16 _ (by decide +kernel) fun t _ y => ?_
  blk_simp [idx t]
  rw [after16]
  have e : (win0_16.blk t).view.emb y = ix3 (im t) (y 1 : Fin 1) (y 2 : Fin 224) := by
    blk_ext [idx t, im]
  rw [e]
  exact (congrArg _ (eq_ix3_00 y)).trans (scalesO_at (holds m c t) (y 2))

end Cert.Run

end
-- ==== Proof.RefForm.lean ====
/- Hand-written, untrusted: THE REFERENCE'S RESULTS, LAYER BY LAYER. The composed terms of the reference's run are cut at the
   values its source names (the affine map, the GELU, the response, the normalised activation, its scales and codes, the
   residual sum), each read at an index as the model's function of the layer before. -/
module

public import proofs.«01_k».proof.Proof.Gen.ReferenceIdeal.Run
public import proofs.«01_k».proof.Proof.Model
public import Idealize.ShloMosaic.Lib.Pointwise.Tactic

@[expose] public section

set_option maxRecDepth 16384

noncomputable section

namespace Cert.RefForm

open Cert.ReferenceIdeal Cert.ReferenceIdeal.Gen Cert.ReferenceIdeal.Value Idealize.ShloMosaic Idealize.ShloMosaic.TcCoe Idealize.SL.Sem
open Idealize.ShloMosaic.StableHlo Idealize.ShloMosaic.Pointwise

variable {F : FTy → Type} [FloatOps F]

/-- The first product, dequantised, with its bias. -/
def fLin (a : Vec F S128x14x16x512 .i8) (s : Vec F S128x14x16 .f32) (w : Vec F S512x2048 .i8) (ws b : Vec F S2048 .f32) : FVec F S128x14x16x2048 .f32 :=
  addf (mulf (mulf (Host.dotGeneral dot_S128x14x16x512_S512x2048_S128x14x16x2048_3_0_012_1_n_n none
        (sitofp .bf16 (extsi 32 a natLt_8_32)) (sitofp .bf16 (extsi 32 w natLt_8_32)))
      (broadcastInDim S128x14x16x2048 ![0, 1, 2, 3] bcast_S128x14x16x1_S128x14x16x2048_0_1_2_3 (broadcastInDim S128x14x16x1 ![0, 1, 2] bcast_S128x14x16_S128x14x16x1_0_1_2 s)))
      (broadcastInDim S128x14x16x2048 ![0, 1, 2, 3] bcast_S1x1x1x2048_S128x14x16x2048_0_1_2_3 (broadcastInDim S1x1x1x2048 ![3] bcast_S2048_S1x1x1x2048_3 ws)))
    (broadcastInDim S128x14x16x2048 ![0, 1, 2, 3] bcast_S1x1x1x2048_S128x14x16x2048_0_1_2_3 (broadcastInDim S1x1x1x2048 ![3] bcast_S2048_S1x1x1x2048_3 b))

/-- The GELU. -/
def fGelu (h : FVec F S128x14x16x2048 .f32) : FVec F S128x14x16x2048 .f32 :=
  mulf (mulf (broadcastInDim S128x14x16x2048 ![] bcast_S_S128x14x16x2048 (constant S_ .f32 0x3F000000#32)) h)
    (Host.erfc (Host.divf (Host.negf h) (broadcastInDim S128x14x16x2048 ![] bcast_S_S128x14x16x2048 (Host.sqrt (constant S_ .f32 0x40000000#32)))))

/-- The channel responses. -/
def fGx (h : FVec F S128x14x16x2048 .f32) : FVec F S128x2048 .f32 :=
  Host.sqrt (Host.reduceAdd (mulf h h) (constant S_ .f32 0x00000000#32) reducesTo_S128x14x16x2048_S128x2048_d1_2 h_S_)

/-- The normalised responses. -/
def fNx (gx : FVec F S128x2048 .f32) : FVec F S128x2048 .f32 :=
  Host.divf gx (broadcastInDim S128x2048 ![0, 1] bcast_S128x1_S128x2048_0_1
    (addf (Host.divf (broadcastInDim S128x1 ![0] bcast_S128_S128x1_0 (Host.reduceAdd gx (constant S_ .f32 0x00000000#32) reducesTo_S128x2048_S128_d1 h_S_))
      (broadcastInDim S128x1 ![] bcast_S_S128x1 (constant S_ .f32 0x45000000#32))) (broadcastInDim S128x1 ![] bcast_S_S128x1 (constant S_ .f32 0x358637BD#32))))

/-- The normalised activation. -/
def fG (h : FVec F S128x14x16x2048 .f32) (nx : FVec F S128x2048 .f32) (gam bet : Vec F S2048 .f32) : FVec F S128x14x16x2048 .f32 :=
  addf (addf (mulf (broadcastInDim S128x14x16x2048 ![0, 1, 2, 3] bcast_S1x1x1x2048_S128x14x16x2048_0_1_2_3 (broadcastInDim S1x1x1x2048 ![3] bcast_S2048_S1x1x1x2048_3 gam))
      (mulf h (broadcastInDim S128x14x16x2048 ![0, 1, 2, 3] bcast_S128x1x1x2048_S128x14x16x2048_0_1_2_3 (broadcastInDim S128x1x1x2048 ![0, 3] bcast_S128x2048_S128x1x1x2048_0_3 nx))))
      (broadcastInDim S128x14x16x2048 ![0, 1, 2, 3] bcast_S1x1x1x2048_S128x14x16x2048_0_1_2_3 (broadcastInDim S1x1x1x2048 ![3] bcast_S2048_S1x1x1x2048_3 bet))) h

/-- The row maxima. -/
def fMax (g : FVec F S128x14x16x2048 .f32) : FVec F S128x14x16 .f32 :=
  Host.reduce FloatOps.maximumf (Host.absf g) (constant S_ .f32 0xFF800000#32) reducesTo_S128x14x16x2048_S128x14x16_d3 h_S_

/-- The row scales. -/
def fSc (a : FVec F S128x14x16 .f32) : FVec F S128x14x16 .f32 :=
  select (cmpf .oeq a (broadcastInDim S128x14x16 ![] bcast_S_S128x14x16 (constant S_ .f32 0x00000000#32)))
    (broadcastInDim S128x14x16 ![] bcast_S_S128x14x16 (constant S_ .f32 0x3F800000#32))
    (Host.divf a (broadcastInDim S128x14x16 ![] bcast_S_S128x14x16 (constant S_ .f32 0x42FE0000#32)))

/-- The codes. -/
def fQ (g : FVec F S128x14x16x2048 .f32) (s : FVec F S128x14x16 .f32) : IVec S128x14x16x2048 8 :=
  trunci 8 (fptosi 32 (minimumf (broadcastInDim S128x14x16x2048 ![] bcast_S_S128x14x16x2048 (constant S_ .f32 0x42FE0000#32))
    (maximumf (broadcastInDim S128x14x16x2048 ![] bcast_S_S128x14x16x2048 (constant S_ .f32 0xC2FE0000#32))
      (Host.roundeven (Host.divf g (broadcastInDim S128x14x16x2048 ![0, 1, 2, 3] bcast_S128x14x16x1_S128x14x16x2048_0_1_2_3
        (broadcastInDim S128x14x16x1 ![0, 1, 2] bcast_S128x14x16_S128x14x16x1_0_1_2 s))))))) natLt_8_32

/-- The residual sum. -/
def fR (x : Vec F S128x14x16x512 .bf16) (q : IVec S128x14x16x2048 8) (s : FVec F S128x14x16 .f32) (w : Vec F S2048x512 .i8) (ws b : Vec F S512 .f32) :
    FVec F S128x14x16x512 .f32 :=
  addf (extf .f32 x bitsLt_bf16_f32)
    (addf (mulf (mulf (Host.dotGeneral dot_S128x14x16x2048_S2048x512_S128x14x16x512_3_0_012_1_n_n none
          (sitofp .bf16 (extsi 32 q natLt_8_32)) (sitofp .bf16 (extsi 32 w natLt_8_32)))
        (broadcastInDim S128x14x16x512 ![0, 1, 2, 3] bcast_S128x14x16x1_S128x14x16x512_0_1_2_3 (broadcastInDim S128x14x16x1 ![0, 1, 2] bcast_S128x14x16_S128x14x16x1_0_1_2 s)))
        (broadcastInDim S128x14x16x512 ![0, 1, 2, 3] bcast_S1x1x1x512_S128x14x16x512_0_1_2_3 (broadcastInDim S1x1x1x512 ![3] bcast_S512_S1x1x1x512_3 ws)))
      (broadcastInDim S128x14x16x512 ![0, 1, 2, 3] bcast_S1x1x1x512_S128x14x16x512_0_1_2_3 (broadcastInDim S1x1x1x512 ![3] bcast_S512_S1x1x1x512_3 b)))

/-- The output codes. -/
def fOc (r : FVec F S128x14x16x512 .f32) (os : Vec F S_ .f32) : IVec S128x14x16x512 8 :=
  trunci 8 (fptosi 32 (minimumf (broadcastInDim S128x14x16x512 ![] bcast_S_S128x14x16x512 (constant S_ .f32 0x42FE0000#32))
    (maximumf (broadcastInDim S128x14x16x512 ![] bcast_S_S128x14x16x512 (constant S_ .f32 0xC2FE0000#32))
      (Host.roundeven (Host.divf r (broadcastInDim S128x14x16x512 ![] bcast_S_S128x14x16x512 os)))))) natLt_8_32

section Named

variable (m : (ℓ : Loc nD τ sig) → Buf (Elt F) ℓ) (c : Dev nD)

/-- The launch contents of argument `i`'s buffer. -/
abbrev arg0 : Vec F S128x14x16x512 .i8 := m ((c.tc : Thread nD τ).loc main_arg0)
abbrev arg1 : Vec F S128x14x16 .f32 := m ((c.tc : Thread nD τ).loc main_arg1)
abbrev arg2 : Vec F S128x14x16x512 .bf16 := m ((c.tc : Thread nD τ).loc main_arg2)
abbrev arg3 : Vec F S512x2048 .i8 := m ((c.tc : Thread nD τ).loc main_arg3)
abbrev arg4 : Vec F S2048 .f32 := m ((c.tc : Thread nD τ).loc main_arg4)
abbrev arg5 : Vec F S2048 .f32 := m ((c.tc : Thread nD τ).loc main_arg5)
abbrev arg6 : Vec F S2048 .f32 := m ((c.tc : Thread nD τ).loc main_arg6)
abbrev arg7 : Vec F S2048 .f32 := m ((c.tc : Thread nD τ).loc main_arg7)
abbrev arg8 : Vec F S2048x512 .i8 := m ((c.tc : Thread nD τ).loc main_arg8)
abbrev arg9 : Vec F S512 .f32 := m ((c.tc : Thread nD τ).loc main_arg9)
abbrev arg10 : Vec F S512 .f32 := m ((c.tc : Thread nD τ).loc main_arg10)
abbrev arg11 : Vec F S_ .f32 := m ((c.tc : Thread nD τ).loc main_arg11)

/-- The activation, of the arguments. -/
def rH : FVec F S128x14x16x2048 .f32 := fGelu (fLin (arg0 m c) (arg1 m c) (arg3 m c) (arg4 m c) (arg5 m c))
/-- The normalised activation, of the arguments. -/
def rG : FVec F S128x14x16x2048 .f32 := fG (rH m c) (fNx (fGx (rH m c))) (arg6 m c) (arg7 m c)
/-- The scales, of the arguments. -/
def rS : FVec F S128x14x16 .f32 := fSc (fMax (rG m c))
/-- The residual sum, of the arguments. -/
def rR : FVec F S128x14x16x512 .f32 := fR (arg2 m c) (fQ (rG m c) (rS m c)) (rS m c) (arg8 m c) (arg9 m c) (arg10 m c)

theorem out4_eq : res_out4 m c = shapeCast _ (rS m c) shapeCasts_S128x14x16_S128x1x224 := rfl
theorem out3_eq : res_out3 m c = shapeCast _ (fQ (rG m c) (rS m c)) shapeCasts_S128x14x16x2048_S128x224x2048 := rfl
theorem out2_eq : res_out2 m c = shapeCast _ (fGx (rH m c)) shapeCasts_S128x2048_S128x1x2048 := rfl
theorem out1_eq : res_out1 m c = shapeCast _ (fOc (rR m c) (arg11 m c)) shapeCasts_S128x14x16x512_S128x224x512 := rfl
theorem out0_eq : res_out0 m c = shapeCast _ (truncf .bf16 (rR m c) bitsLt_bf16_f32) shapeCasts_S128x14x16x512_S128x224x512 := rfl

end Named

end Cert.RefForm

end
-- ==== Proof.RefRead.lean ====
/- Hand-written, untrusted: THE REFERENCE READ AT AN INDEX. Each layer of the reference at an index, then its five results at
   image `i`, as the model's functions of that image of the arguments. -/
module

public import proofs.«01_k».proof.Proof.RefForm
public import Idealize.ShloMosaic.Lib.Pipeline.ValueKit

@[expose] public section

set_option maxRecDepth 16384

noncomputable section

namespace Cert.RefForm

open Cert.ReferenceIdeal Cert.ReferenceIdeal.Gen Cert.ReferenceIdeal.Value Idealize.ShloMosaic Idealize.ShloMosaic.TcCoe Idealize.SL.Sem
open Idealize.ShloMosaic.StableHlo Idealize.ShloMosaic.Pointwise Cert.Model

theorem signExtend_toInt (c : BitVec 8) : (BitVec.signExtend 32 c).toInt = c.toInt :=
  BitVec.toInt_signExtend_of_le (by omega)

theorem fLin_at (a : Vec Ideal S128x14x16x512 .i8) (s : Vec Ideal S128x14x16 .f32) (w : Vec Ideal S512x2048 .i8) (ws b : Vec Ideal S2048 .f32)
    (i : Fin 128) (y : Fin 14) (x : Fin 16) (n : Fin 2048) : fLin (F := Ideal) a s w ws b (ix4 i y x n) =
      (∑ k, cv (a (ix4 i y x k)) * cv (w (ix2 k n))) * s (ix3 i y x) * ws (ix1 n) + b (ix1 n) := by
  unfold fLin; pointwise
  simp only [cv, ← signExtend_toInt]; rfl

theorem fGelu_at (h : FVec Ideal S128x14x16x2048 .f32) (i : Fin 128) (y : Fin 14) (x : Fin 16) (n : Fin 2048) :
    fGelu (F := Ideal) h (ix4 i y x n) = Alg.gelu (h (ix4 i y x n)) := by
  unfold fGelu; pointwise; rfl

/-- The sum over the two image axes is the sum over the pixels. -/
theorem reduce12 (v : FVec Ideal S128x14x16x2048 .f32) (i : Fin 128) (n : Fin 2048) :
    Ideal.hostReduceAdd reducesTo_S128x14x16x2048_S128x2048_d1_2 v 0 (ix2 i n) = ∑ p, v (ix4 i (rowY p) (rowX p) n) := by
  have h := reducesTo_S128x14x16x2048_S128x2048_d1_2
  show (0 : EReal) + ∑ k ∈ Finset.univ.filter (fun k => h.drop k = ix2 i n), v k = _
  rw [zero_add]
  refine Finset.sum_filter_eq_sum_of_fiber _ (fun p : Fin 224 => ix4 i (rowY p) (rowX p) n) (fun p p' e => ?_) (fun k => ?_) v
  · have e1 : p.val / 16 = p'.val / 16 := congrArg Fin.val (congrFun e 1)
    have e2 : p.val % 16 = p'.val % 16 := congrArg Fin.val (congrFun e 2)
    apply Fin.ext; omega
  · constructor
    · intro e
      have h1 : (k 1).val < 14 := (k 1).isLt
      have h2 : (k 2).val < 16 := (k 2).isLt
      refine ⟨⟨16 * (k 1).val + (k 2).val, by omega⟩, ?_⟩
      funext a; apply Fin.ext
      match a with
      | ⟨0, _⟩ => exact (congrArg Fin.val (congrFun e 0)).symm
      | ⟨1, _⟩ => show (16 * (k 1).val + (k 2).val) / 16 = (k 1).val; omega
      | ⟨2, _⟩ => show (16 * (k 1).val + (k 2).val) % 16 = (k 2).val; omega
      | ⟨3, _⟩ => exact (congrArg Fin.val (congrFun e 1)).symm
    · rintro ⟨p, rfl⟩
      funext b; apply Fin.ext
      match b with
      | ⟨0, _⟩ => rfl
      | ⟨1, _⟩ => rfl

theorem fGx_at (h : FVec Ideal S128x14x16x2048 .f32) (i : Fin 128) (n : Fin 2048) : fGx (F := Ideal) h (ix2 i n) =
      Ideal.sqrt (∑ p, h (ix4 i (rowY p) (rowX p) n) * h (ix4 i (rowY p) (rowX p) n)) := by
  unfold fGx; pointwise; rw [reduce12]; rfl

theorem fNx_at (h : FVec Ideal S128x2048 .f32) (i : Fin 128)  (n : Fin 2048) : fNx (F := Ideal) h (ix2 i n) =
      Ideal.div (h (ix2 i n)) (Ideal.div (∑ n, h (ix2 i n)) (Ideal.ofBits .f32 0x45000000#32) + Ideal.ofBits .f32 0x358637BD#32) := by
  unfold fNx; pointwise

theorem fG_at (h : FVec Ideal S128x14x16x2048 .f32) (nx : FVec Ideal S128x2048 .f32) (gam bet : Vec Ideal S2048 .f32)
    (i : Fin 128) (y : Fin 14) (x : Fin 16) (n : Fin 2048) : fG (F := Ideal) h nx gam bet (ix4 i y x n) =
      gam (ix1 n) * (h (ix4 i y x n) * nx (ix2 i n)) + bet (ix1 n) + h (ix4 i y x n) := by
  unfold fG; pointwise

theorem fMax_at (h : FVec Ideal S128x14x16x2048 .f32) (i : Fin 128) (y : Fin 14) (x : Fin 16) :
    fMax (F := Ideal) h (ix3 i y x) = amax fun n => h (ix4 i y x n) := by
  unfold fMax; pointwise; rfl

theorem fSc_at (a : FVec Ideal S128x14x16 .f32) (i : Fin 128) (y : Fin 14) (x : Fin 16) :
    fSc (F := Ideal) a (ix3 i y x) = if a (ix3 i y x) = 0 then 1 else Ideal.div (a (ix3 i y x)) (Ideal.ofBits .f32 0x42FE0000#32) := by
  unfold fSc; pointwise

theorem fQ_at (g : FVec Ideal S128x14x16x2048 .f32) (s : FVec Ideal S128x14x16 .f32) (i : Fin 128) (y : Fin 14) (x : Fin 16) (n : Fin 2048) :
    fQ (F := Ideal) g s (ix4 i y x n) = Ideal.fptosi 8 (Alg.clipRound (Ideal.div (g (ix4 i y x n)) (s (ix3 i y x)))) := by
  unfold fQ; pointwise
  exact Alg.code_trunc _

theorem fR_at (r : Vec Ideal S128x14x16x512 .bf16) (q : IVec S128x14x16x2048 8) (s : FVec Ideal S128x14x16 .f32) (w : Vec Ideal S2048x512 .i8)
    (ws b : Vec Ideal S512 .f32) (i : Fin 128) (y : Fin 14) (x : Fin 16) (n : Fin 512) : fR (F := Ideal) r q s w ws b (ix4 i y x n) =
      r (ix4 i y x n) + ((∑ k, cv (q (ix4 i y x k)) * cv (w (ix2 k n))) * s (ix3 i y x) * ws (ix1 n) + b (ix1 n)) := by
  unfold fR; pointwise
  simp only [cv, ← signExtend_toInt]; rfl

theorem fOc_at (r : Vec Ideal S128x14x16x512 .f32) (os : Vec Ideal S_ .f32) (i : Fin 128) (y : Fin 14) (x : Fin 16) (n : Fin 512) :
    fOc (F := Ideal) r os (ix4 i y x n) = Ideal.fptosi 8 (Alg.clipRound (Ideal.div (r (ix4 i y x n)) (os ix0))) := by
  unfold fOc; pointwise
  exact Alg.code_trunc _

section Results

variable (m : (ℓ : Loc nD τ sig) → Buf (Elt Ideal) ℓ) (c : Dev nD)

/-- Image `i` of the launch contents of the arguments. -/
abbrev img (i : Fin 128) : Image :=
  image (arg0 m c) (arg1 m c) (arg2 m c) (arg3 m c) (arg4 m c) (arg5 m c) (arg6 m c) (arg7 m c) (arg8 m c) (arg9 m c) (arg10 m c) (arg11 m c) i

theorem rH_at (i : Fin 128) (p : Fin 224) (n : Fin 2048) : rH m c (ix4 i (rowY p) (rowX p) n) = (img m c i).H p n := by
  rw [rH, fGelu_at, fLin_at]; rfl

theorem gx_at (i : Fin 128) (n : Fin 2048) : fGx (rH m c) (ix2 i n) = (img m c i).gx n := by
  rw [fGx_at]; simp only [rH_at]; rfl

theorem rG_at (i : Fin 128) (p : Fin 224) (n : Fin 2048) : rG m c (ix4 i (rowY p) (rowX p) n) = (img m c i).G p n := by
  rw [rG, fG_at, fNx_at]; simp only [rH_at, gx_at]; rfl

theorem rS_at (i : Fin 128) (p : Fin 224) : rS m c (ix3 i (rowY p) (rowX p)) = (img m c i).S p := by
  rw [rS, fSc_at, fMax_at]; simp only [rG_at]; rfl

theorem rQ_at (i : Fin 128) (p : Fin 224) (n : Fin 2048) :
    fQ (rG m c) (rS m c) (ix4 i (rowY p) (rowX p) n) = Ideal.fptosi 8 ((img m c i).Q p n) := by
  rw [fQ_at, rG_at, rS_at]; rfl

theorem rR_at (i : Fin 128) (p : Fin 224) (k : Fin 512) : rR m c (ix4 i (rowY p) (rowX p) k) = (img m c i).R p k := by
  rw [rR, fR_at]; simp only [rQ_at, rS_at]
  have e : ∀ n, cv (Ideal.fptosi 8 ((img m c i).Q p n)) = (img m c i).Q p n := fun n => Alg.code_value _
  simp only [e]; rfl

/-- The output at image `i`. -/
theorem out0_at (i : Fin 128) (p : Fin 224) (k : Fin 512) : res_out0 m c (ix3 i p k) = (img m c i).R p k := by
  rw [out0_eq]; pointwise; exact rR_at m c i p k

/-- The output codes at image `i`. -/
theorem out1_at (i : Fin 128) (p : Fin 224) (k : Fin 512) : res_out1 m c (ix3 i p k) = Ideal.fptosi 8 ((img m c i).O p k) := by
  rw [out1_eq]; pointwise
  refine (fOc_at _ _ i (rowY p) (rowX p) k).trans ?_
  rw [rR_at]; rfl

/-- The responses at image `i`. -/
theorem out2_at (i : Fin 128) (n : Fin 2048) : res_out2 m c (ix3 i 0 n) = (img m c i).gx n := by
  rw [out2_eq]; pointwise; exact gx_at m c i n

/-- The quantised activations' codes at image `i`. -/
theorem out3_at (i : Fin 128) (p : Fin 224) (n : Fin 2048) : res_out3 m c (ix3 i p n) = Ideal.fptosi 8 ((img m c i).Q p n) := by
  rw [out3_eq]; pointwise; exact rQ_at m c i p n

/-- The quantised activations' scales at image `i`. -/
theorem out4_at (i : Fin 128) (p : Fin 224) : res_out4 m c (ix3 i 0 p) = (img m c i).S p := by
  rw [out4_eq]; pointwise; exact rS_at m c i p

end Results

end Cert.RefForm

end
-- ==== Proof.ConvTrip.lean ====
/- Hand-written, untrusted: THE CONVOLUTION'S TWO LOOPS. One trip of the inner loop stores one row of one lane tile of the
   result; its entry there is the chain of forty-nine multiply-adds over the padded image, scaled and shifted. The two loops'
   pieces cover the whole buffer, so what it reads back is one function of the padded image, the taps, the scale and the bias,
   whatever it held before. -/
module

public import proofs.«01_k».proof.Proof.Gen.ConvIdeal.Loops
import all proofs.«01_k».proof.Proof.Gen.ConvIdeal.Loops
public import Idealize.ShloMosaic.Lib.Pointwise.Tactic
public import Idealize.ShloMosaic.Lib.Pipeline.ValueKit
public import Idealize.ShloMosaic.Lib.Pipeline.FrameBody
public import Idealize.ShloMosaic.Lib.ValueLayout

@[expose] public section

set_option maxRecDepth 16384

noncomputable section

namespace Cert.ConvIdeal.Body

open Cert.ConvIdeal Cert.ConvIdeal.Gen Idealize.ShloMosaic Idealize.ShloMosaic.TcCoe Idealize.SL.Sem Idealize.ShloMosaic.Pointwise

variable {F : FTy → Type} [FloatOps F]

/-! ## Entries by natural coordinates -/

/-- An entry of the padded image. -/
def xAt {α : Type} (x : S20x32x512.Idx → α) (a b c : ℕ) : α :=
  x (ix3 ⟨a % 20, Nat.mod_lt _ (by decide)⟩ ⟨b % 32, Nat.mod_lt _ (by decide)⟩ ⟨c % 512, Nat.mod_lt _ (by decide)⟩)

/-- A tap of a channel. -/
def wAt {α : Type} (w : S49x512.Idx → α) (k c : ℕ) : α := w (ix2 ⟨k % 49, Nat.mod_lt _ (by decide)⟩ ⟨c % 512, Nat.mod_lt _ (by decide)⟩)

/-- A channel's entry of a row vector. -/
def vAt {α : Type} (v : S1x512.Idx → α) (c : ℕ) : α := v (ix2 (0 : Fin 1) ⟨c % 512, Nat.mod_lt _ (by decide)⟩)

/-- The chain of multiply-adds over the first `n` taps. -/
def chain (x : Vec F S20x32x512 .f32) (w : Vec F S49x512 .f32) (r p c : ℕ) : ℕ → F .f32
  | 0 => Scalar.ofBits .f32 0x00000000#32
  | n + 1 => FloatOps.addf (chain x w r p c n) (FloatOps.mulf (xAt x (r + n / 7) (5 + n % 7 + p) c) (wAt w n c))

/-- The convolution's result at an entry: the chain over all taps, scaled, plus the bias. -/
def conv (x : Vec F S20x32x512 .f32) (w : Vec F S49x512 .f32) (sc b : Vec F S1x512 .f32) : Vec F S14x16x512 .f32 := fun y =>
  FloatOps.addf (FloatOps.mulf (chain x w (y 0).val (y 1).val (y 2).val 49) (vAt sc (y 2).val)) (vAt b (y 2).val)

theorem conv_at (x : Vec F S20x32x512 .f32) (w : Vec F S49x512 .f32) (sc b : Vec F S1x512 .f32) (r : Fin 14) (p : Fin 16) (c : Fin 512) :
    conv x w sc b (ix3 r p c)
      = FloatOps.addf (FloatOps.mulf (chain x w r.val p.val c.val 49) (vAt sc c.val)) (vAt b c.val) := rfl

/-! ## The offsets -/

theorem t2_lt : ∀ a : Fin k0_t2_loop.trips, a.val < 14 := by decide
theorem t1_lt : ∀ a : Fin k0_t1_loop.trips, a.val < 4 := by decide

theorem off58_eq : ∀ (a : Fin k0_t1_loop.trips) (b : Fin k0_t2_loop.trips), k0_off58 a b = ![b.val, 0, 128 * a.val] := by decide
theorem off57_eq : ∀ a : Fin k0_t1_loop.trips, k0_off57 a = ![0, 128 * a.val] := by decide
theorem off2_eq : ∀ a : Fin k0_t1_loop.trips, k0_off2 a = ![0, 128 * a.val] := by decide
theorem off4_eq : ∀ a : Fin k0_t1_loop.trips, k0_off4 a = ![1, 128 * a.val] := by decide
theorem off6_eq : ∀ a : Fin k0_t1_loop.trips, k0_off6 a = ![2, 128 * a.val] := by decide
theorem off8_eq : ∀ a : Fin k0_t1_loop.trips, k0_off8 a = ![3, 128 * a.val] := by decide
theorem off10_eq : ∀ a : Fin k0_t1_loop.trips, k0_off10 a = ![4, 128 * a.val] := by decide
theorem off12_eq : ∀ a : Fin k0_t1_loop.trips, k0_off12 a = ![5, 128 * a.val] := by decide
theorem off14_eq : ∀ a : Fin k0_t1_loop.trips, k0_off14 a = ![6, 128 * a.val] := by decide
theorem off15_eq : ∀ a : Fin k0_t1_loop.trips, k0_off15 a = ![7, 128 * a.val] := by decide
theorem off16_eq : ∀ a : Fin k0_t1_loop.trips, k0_off16 a = ![8, 128 * a.val] := by decide
theorem off17_eq : ∀ a : Fin k0_t1_loop.trips, k0_off17 a = ![9, 128 * a.val] := by decide
theorem off18_eq : ∀ a : Fin k0_t1_loop.trips, k0_off18 a = ![10, 128 * a.val] := by decide
theorem off19_eq : ∀ a : Fin k0_t1_loop.trips, k0_off19 a = ![11, 128 * a.val] := by decide
theorem off20_eq : ∀ a : Fin k0_t1_loop.trips, k0_off20 a = ![12, 128 * a.val] := by decide
theorem off21_eq : ∀ a : Fin k0_t1_loop.trips, k0_off21 a = ![13, 128 * a.val] := by decide
theorem off22_eq : ∀ a : Fin k0_t1_loop.trips, k0_off22 a = ![14, 128 * a.val] := by decide
theorem off23_eq : ∀ a : Fin k0_t1_loop.trips, k0_off23 a = ![15, 128 * a.val] := by decide
theorem off24_eq : ∀ a : Fin k0_t1_loop.trips, k0_off24 a = ![16, 128 * a.val] := by decide
theorem off25_eq : ∀ a : Fin k0_t1_loop.trips, k0_off25 a = ![17, 128 * a.val] := by decide
theorem off26_eq : ∀ a : Fin k0_t1_loop.trips, k0_off26 a = ![18, 128 * a.val] := by decide
theorem off27_eq : ∀ a : Fin k0_t1_loop.trips, k0_off27 a = ![19, 128 * a.val] := by decide
theorem off28_eq : ∀ a : Fin k0_t1_loop.trips, k0_off28 a = ![20, 128 * a.val] := by decide
theorem off29_eq : ∀ a : Fin k0_t1_loop.trips, k0_off29 a = ![21, 128 * a.val] := by decide
theorem off30_eq : ∀ a : Fin k0_t1_loop.trips, k0_off30 a = ![22, 128 * a.val] := by decide
theorem off31_eq : ∀ a : Fin k0_t1_loop.trips, k0_off31 a = ![23, 128 * a.val] := by decide
theorem off32_eq : ∀ a : Fin k0_t1_loop.trips, k0_off32 a = ![24, 128 * a.val] := by decide
theorem off33_eq : ∀ a : Fin k0_t1_loop.trips, k0_off33 a = ![25, 128 * a.val] := by decide
theorem off34_eq : ∀ a : Fin k0_t1_loop.trips, k0_off34 a = ![26, 128 * a.val] := by decide
theorem off35_eq : ∀ a : Fin k0_t1_loop.trips, k0_off35 a = ![27, 128 * a.val] := by decide
theorem off36_eq : ∀ a : Fin k0_t1_loop.trips, k0_off36 a = ![28, 128 * a.val] := by decide
theorem off37_eq : ∀ a : Fin k0_t1_loop.trips, k0_off37 a = ![29, 128 * a.val] := by decide
theorem off38_eq : ∀ a : Fin k0_t1_loop.trips, k0_off38 a = ![30, 128 * a.val] := by decide
theorem off39_eq : ∀ a : Fin k0_t1_loop.trips, k0_off39 a = ![31, 128 * a.val] := by decide
theorem off40_eq : ∀ a : Fin k0_t1_loop.trips, k0_off40 a = ![32, 128 * a.val] := by decide
theorem off41_eq : ∀ a : Fin k0_t1_loop.trips, k0_off41 a = ![33, 128 * a.val] := by decide
theorem off42_eq : ∀ a : Fin k0_t1_loop.trips, k0_off42 a = ![34, 128 * a.val] := by decide
theorem off43_eq : ∀ a : Fin k0_t1_loop.trips, k0_off43 a = ![35, 128 * a.val] := by decide
theorem off44_eq : ∀ a : Fin k0_t1_loop.trips, k0_off44 a = ![36, 128 * a.val] := by decide
theorem off45_eq : ∀ a : Fin k0_t1_loop.trips, k0_off45 a = ![37, 128 * a.val] := by decide
theorem off46_eq : ∀ a : Fin k0_t1_loop.trips, k0_off46 a = ![38, 128 * a.val] := by decide
theorem off47_eq : ∀ a : Fin k0_t1_loop.trips, k0_off47 a = ![39, 128 * a.val] := by decide
theorem off48_eq : ∀ a : Fin k0_t1_loop.trips, k0_off48 a = ![40, 128 * a.val] := by decide
theorem off49_eq : ∀ a : Fin k0_t1_loop.trips, k0_off49 a = ![41, 128 * a.val] := by decide
theorem off50_eq : ∀ a : Fin k0_t1_loop.trips, k0_off50 a = ![42, 128 * a.val] := by decide
theorem off51_eq : ∀ a : Fin k0_t1_loop.trips, k0_off51 a = ![43, 128 * a.val] := by decide
theorem off52_eq : ∀ a : Fin k0_t1_loop.trips, k0_off52 a = ![44, 128 * a.val] := by decide
theorem off53_eq : ∀ a : Fin k0_t1_loop.trips, k0_off53 a = ![45, 128 * a.val] := by decide
theorem off54_eq : ∀ a : Fin k0_t1_loop.trips, k0_off54 a = ![46, 128 * a.val] := by decide
theorem off55_eq : ∀ a : Fin k0_t1_loop.trips, k0_off55 a = ![47, 128 * a.val] := by decide
theorem off56_eq : ∀ a : Fin k0_t1_loop.trips, k0_off56 a = ![48, 128 * a.val] := by decide
theorem off1_eq (a : Fin k0_t1_loop.trips) (b : Fin k0_t2_loop.trips) (d : BitVec 32) (h : d.toNat < 7) :
    k0_off1 a b d = ![b.val + d.toNat, 5, 128 * a.val] := by
  have e : ∀ (a : Fin k0_t1_loop.trips) (b : Fin k0_t2_loop.trips) (r : Fin 7), k0_off1 a b (BitVec.ofNat 32 r.val) = ![b.val + r.val, 5, 128 * a.val] := by decide
  simpa using e a b ⟨d.toNat, h⟩
theorem off3_eq (a : Fin k0_t1_loop.trips) (b : Fin k0_t2_loop.trips) (d : BitVec 32) (h : d.toNat < 7) :
    k0_off3 a b d = ![b.val + d.toNat, 6, 128 * a.val] := by
  have e : ∀ (a : Fin k0_t1_loop.trips) (b : Fin k0_t2_loop.trips) (r : Fin 7), k0_off3 a b (BitVec.ofNat 32 r.val) = ![b.val + r.val, 6, 128 * a.val] := by decide
  simpa using e a b ⟨d.toNat, h⟩
theorem off5_eq (a : Fin k0_t1_loop.trips) (b : Fin k0_t2_loop.trips) (d : BitVec 32) (h : d.toNat < 7) :
    k0_off5 a b d = ![b.val + d.toNat, 7, 128 * a.val] := by
  have e : ∀ (a : Fin k0_t1_loop.trips) (b : Fin k0_t2_loop.trips) (r : Fin 7), k0_off5 a b (BitVec.ofNat 32 r.val) = ![b.val + r.val, 7, 128 * a.val] := by decide
  simpa using e a b ⟨d.toNat, h⟩
theorem off7_eq (a : Fin k0_t1_loop.trips) (b : Fin k0_t2_loop.trips) (d : BitVec 32) (h : d.toNat < 7) :
    k0_off7 a b d = ![b.val + d.toNat, 8, 128 * a.val] := by
  have e : ∀ (a : Fin k0_t1_loop.trips) (b : Fin k0_t2_loop.trips) (r : Fin 7), k0_off7 a b (BitVec.ofNat 32 r.val) = ![b.val + r.val, 8, 128 * a.val] := by decide
  simpa using e a b ⟨d.toNat, h⟩
theorem off9_eq (a : Fin k0_t1_loop.trips) (b : Fin k0_t2_loop.trips) (d : BitVec 32) (h : d.toNat < 7) :
    k0_off9 a b d = ![b.val + d.toNat, 9, 128 * a.val] := by
  have e : ∀ (a : Fin k0_t1_loop.trips) (b : Fin k0_t2_loop.trips) (r : Fin 7), k0_off9 a b (BitVec.ofNat 32 r.val) = ![b.val + r.val, 9, 128 * a.val] := by decide
  simpa using e a b ⟨d.toNat, h⟩
theorem off11_eq (a : Fin k0_t1_loop.trips) (b : Fin k0_t2_loop.trips) (d : BitVec 32) (h : d.toNat < 7) :
    k0_off11 a b d = ![b.val + d.toNat, 10, 128 * a.val] := by
  have e : ∀ (a : Fin k0_t1_loop.trips) (b : Fin k0_t2_loop.trips) (r : Fin 7), k0_off11 a b (BitVec.ofNat 32 r.val) = ![b.val + r.val, 10, 128 * a.val] := by decide
  simpa using e a b ⟨d.toNat, h⟩
theorem off13_eq (a : Fin k0_t1_loop.trips) (b : Fin k0_t2_loop.trips) (d : BitVec 32) (h : d.toNat < 7) :
    k0_off13 a b d = ![b.val + d.toNat, 11, 128 * a.val] := by
  have e : ∀ (a : Fin k0_t1_loop.trips) (b : Fin k0_t2_loop.trips) (r : Fin 7), k0_off13 a b (BitVec.ofNat 32 r.val) = ![b.val + r.val, 11, 128 * a.val] := by decide
  simpa using e a b ⟨d.toNat, h⟩

/-! ## What the loads read -/

section Loads

variable {sig : RefSig} {κ : Kind} {sp : Space} {Val : EltTy → Type} {e : EltTy}

/-- A row of the padded image, at an entry. -/
theorem load_x (v : View sig κ sp S20x32x512 e) (X : v.ty.Contents Val) (off : Fin 3 → ℕ)
    (inb : ∀ ax, off ax + (![1, 16, 128] : Fin 3 → ℕ) ax ≤ S20x32x512.size ax) (p : Fin 16) (l : Fin 128) :
    v.readAt Val (Rect.unit (s := S20x32x512) off ![1, 16, 128] inb).toLoadRect X (ix3 (0 : Fin 1) p l)
      = xAt (v.read Val X) (off 0) (off 1 + p.val) (off 2 + l.val) := by
  rw [View.readAt_apply]
  have h0 := inb 0; have h1 := inb 1; have h2 := inb 2
  simp at h0 h1 h2
  refine congrArg (v.read Val X) (funext fun ax => Fin.ext ?_)
  match ax with
  | ⟨0, _⟩ => show off 0 + 1 * 0 = off 0 % 20; omega
  | ⟨1, _⟩ => show off 1 + 1 * p.val = (off 1 + p.val) % 32; omega
  | ⟨2, _⟩ => show off 2 + 1 * l.val = (off 2 + l.val) % 512; omega

/-- A lane tile of a tap, at an entry. -/
theorem load_w (v : View sig κ sp S49x512 e) (X : v.ty.Contents Val) (off : Fin 2 → ℕ)
    (inb : ∀ ax, off ax + (![1, 128] : Fin 2 → ℕ) ax ≤ S49x512.size ax) (l : Fin 128) :
    v.readAt Val (Rect.unit (s := S49x512) off ![1, 128] inb).toLoadRect X (ix2 (0 : Fin 1) l)
      = wAt (v.read Val X) (off 0) (off 1 + l.val) := by
  rw [View.readAt_apply]
  have h0 := inb 0; have h1 := inb 1
  simp at h0 h1
  refine congrArg (v.read Val X) (funext fun ax => Fin.ext ?_)
  match ax with
  | ⟨0, _⟩ => show off 0 + 1 * 0 = off 0 % 49; omega
  | ⟨1, _⟩ => show off 1 + 1 * l.val = (off 1 + l.val) % 512; omega

/-- A lane tile of a row vector, at an entry. -/
theorem load_v (v : View sig κ sp S1x512 e) (X : v.ty.Contents Val) (off : Fin 2 → ℕ)
    (inb : ∀ ax, off ax + (![1, 128] : Fin 2 → ℕ) ax ≤ S1x512.size ax) (l : Fin 128) :
    v.readAt Val (Rect.unit (s := S1x512) off ![1, 128] inb).toLoadRect X (ix2 (0 : Fin 1) l)
      = vAt (v.read Val X) (off 1 + l.val) := by
  rw [View.readAt_apply]
  have h0 := inb 0; have h1 := inb 1
  simp at h0 h1
  refine congrArg (v.read Val X) (funext fun ax => Fin.ext ?_)
  match ax with
  | ⟨0, _⟩ => show off 0 + 1 * 0 = 0; omega
  | ⟨1, _⟩ => show off 1 + 1 * l.val = (off 1 + l.val) % 512; omega

end Loads

/-- A row of one lane tile without its leading unit axis. -/
theorem drop_at (v : Vec F S1x16x128 .f32) (p : Fin 16) (l : Fin 128) :
    shapeCast S16x128 v shapeCasts_S1x16x128_S16x128 (ix2 p l) = v (ix3 (0 : Fin 1) p l) := by
  rw [shapeCast_dropUnit_apply]; congr 1; funext a; match a with | ⟨0, _⟩ => rfl | ⟨1, _⟩ => rfl | ⟨2, _⟩ => rfl

/-- A row of one lane tile with a leading unit axis. -/
theorem add_at (v : FVec F S16x128 .f32) (p : Fin 16) (l : Fin 128) :
    shapeCast S1x16x128 v shapeCasts_S16x128_S1x16x128 (ix3 (0 : Fin 1) p l) = v (ix2 p l) := by
  refine (shapeCast_addUnit_apply ![16, 128] v shapeCasts_S16x128_S1x16x128 (ix3 (0 : Fin 1) p l)).trans (congrArg v (funext fun a => ?_))
  match a with | ⟨0, _⟩ => rfl | ⟨1, _⟩ => rfl

/-- A lane tile broadcast over the row. -/
theorem bc_at (v : Vec F S1x128 .f32) (p : Fin 16) (l : Fin 128) :
    broadcastTo S16x128 (shapeCast S1x128 v shapeCasts_S1x128_S1x128) broadcasts_S1x128_S16x128 (ix2 p l) = v (ix2 (0 : Fin 1) l) := by
  rw [shapeCast_self]; exact ValueIdx.broadcastTo_1b_ab_apply _ _ _ _

section LoadsAt

variable {sig : RefSig} {κ : Kind} {sp : Space}

/-- A loaded row of the padded image, as the body uses it. -/
theorem row_at (v : View sig κ sp S20x32x512 .f32) (X : v.ty.Contents (Elt F)) (off : Fin 3 → ℕ)
    (inb : ∀ ax, off ax + (![1, 16, 128] : Fin 3 → ℕ) ax ≤ S20x32x512.size ax) (p : Fin 16) (l : Fin 128) :
    shapeCast (s := S1x16x128) S16x128 (v.readAt (Elt F) (Rect.unit (s := S20x32x512) off ![1, 16, 128] inb).toLoadRect X)
        shapeCasts_S1x16x128_S16x128 (ix2 p l)
      = xAt (v.read (Elt F) X) (off 0) (off 1 + p.val) (off 2 + l.val) :=
  (drop_at _ p l).trans (load_x v X off inb p l)

/-- A loaded tap, as the body uses it. -/
theorem tap_at (v : View sig κ sp S49x512 .f32) (X : v.ty.Contents (Elt F)) (off : Fin 2 → ℕ)
    (inb : ∀ ax, off ax + (![1, 128] : Fin 2 → ℕ) ax ≤ S49x512.size ax) (p : Fin 16) (l : Fin 128) :
    broadcastTo S16x128 (shapeCast (s := S1x128) S1x128 (v.readAt (Elt F) (Rect.unit (s := S49x512) off ![1, 128] inb).toLoadRect X)
        shapeCasts_S1x128_S1x128) broadcasts_S1x128_S16x128 (ix2 p l)
      = wAt (v.read (Elt F) X) (off 0) (off 1 + l.val) :=
  (bc_at _ p l).trans (load_w v X off inb l)

/-- A loaded tile of a row vector, as the body uses it. -/
theorem vec_at (v : View sig κ sp S1x512 .f32) (X : v.ty.Contents (Elt F)) (off : Fin 2 → ℕ)
    (inb : ∀ ax, off ax + (![1, 128] : Fin 2 → ℕ) ax ≤ S1x512.size ax) (p : Fin 16) (l : Fin 128) :
    broadcastTo S16x128 (shapeCast (s := S1x128) S1x128 (v.readAt (Elt F) (Rect.unit (s := S1x512) off ![1, 128] inb).toLoadRect X)
        shapeCasts_S1x128_S1x128) broadcasts_S1x128_S16x128 (ix2 p l)
      = vAt (v.read (Elt F) X) (off 1 + l.val) :=
  (bc_at _ p l).trans (load_v v X off inb l)

end LoadsAt

section Trips

variable (𝒱 : Variants) (c : Dev nD) (bd : Option 𝒱.V) (i : grid0.Coords) (arg1 : Memref sig .tc .vmem S1x14x16x512 .i8) (harg1 : arg1.IsWhole) (arg2 : Memref sig .tc .vmem S49x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x224x512 .i8) (harg7 : arg7.IsWhole) (arg8 : Memref sig .tc .vmem S1x1x224 .f32) (harg8 : arg8.IsWhole) (arg9 : Memref sig .tc .vmem S20x32x512 .f32) (harg9 : arg9.IsWhole) (arg10 : Memref sig .tc .vmem S14x16x512 .f32) (harg10 : arg10.IsWhole) (X2 : BufTy.Contents (Elt F) arg2.view.ty) (X3 : BufTy.Contents (Elt F) arg3.view.ty) (X4 : BufTy.Contents (Elt F) arg4.view.ty) (X9 : BufTy.Contents (Elt F) arg9.view.ty)

/-- The result as the loops' buffers give it. -/
abbrev res : Vec F S14x16x512 .f32 :=
  conv (arg9.view.read (Elt F) X9) (arg2.view.read (Elt F) X2) (arg3.view.read (Elt F) X3) (arg4.view.read (Elt F) X4)

/-- One inner trip stores one row of one lane tile of the result. -/
theorem trip_t2 (t1 : Fin k0_t1_loop.trips) (v61 : BitVec 32) (k : Fin k0_t2_loop.trips) :
    ∃ P, tripL_k0_t2 𝒱 c bd i arg1 harg1 arg2 harg2 arg3 harg3 arg4 harg4 arg5 harg5 arg6 harg6 arg7 harg7 arg8 harg8 arg9 harg9 arg10 harg10 t1 v61 X2 X3 X4 X9 k
        = [⟨Rect.unit (s := S14x16x512) (k0_off58 t1 k) S1x16x128.size (k0_off58_inb t1 k), P⟩]
      ∧ ∀ (p : Fin 16) (l : Fin 128), P (ix3 (0 : Fin 1) p l) = res arg2 arg3 arg4 arg9 X2 X3 X4 X9 ((Rect.unit (s := S14x16x512) (k0_off58 t1 k) S1x16x128.size (k0_off58_inb t1 k)).emb (ix3 (0 : Fin 1) p l)) := by
  have e : ∀ (p : Fin 16) (l : Fin 128), (Rect.unit (s := S14x16x512) (k0_off58 t1 k) S1x16x128.size (k0_off58_inb t1 k)).emb (ix3 (0 : Fin 1) p l)
      = ix3 (⟨k.val, t2_lt k⟩ : Fin 14) p (⟨128 * t1.val + l.val, by have := l.isLt; have h4 := t1_lt t1; omega⟩ : Fin 512) := by
    intro p l
    refine funext fun ax => Fin.ext ?_
    match ax with
    | ⟨0, _⟩ => show k0_off58 t1 k 0 + 1 * 0 = k.val; rw [off58_eq]; rfl
    | ⟨1, _⟩ => show k0_off58 t1 k 1 + 1 * p.val = p.val; rw [off58_eq]; simp
    | ⟨2, _⟩ => show k0_off58 t1 k 2 + 1 * l.val = 128 * t1.val + l.val; rw [off58_eq]; simp
  unfold tripL_k0_t2 trip_k0_t2
  refine ⟨_, rfl, fun p l => ?_⟩
  rw [e]
  simp only [trip_k0_t2.sl.r_1, trip_k0_t2.sl.r_2, trip_k0_t2.sl.r_3, trip_k0_t2.sl.r_4, trip_k0_t2.sl.r_5, trip_k0_t2.sl.r_6, trip_k0_t2.sl.r_7, trip_k0_t2.sl.r_8, trip_k0_t2.sl.r_9, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay25]
  rw [add_at]
  unfold res
  rw [conv_at]
  refine congrArg₂ FloatOps.addf (congrArg₂ FloatOps.mulf ?_ ?_) ?_
  · simp only [addf_apply, mulf_apply, chain, Nat.reduceDiv, Nat.reduceMod, Nat.reduceAdd]
    iterate 49
      refine congrArg₂ FloatOps.addf ?_ (congrArg₂ FloatOps.mulf ((row_at _ _ _ _ _ _).trans ?_) ((tap_at _ _ _ _ _ _).trans ?_))
      rotate_left
      · simp (disch := decide) only [off1_eq, off3_eq, off5_eq, off7_eq, off9_eq, off11_eq, off13_eq, BitVec.reduceToNat,
          Matrix.cons_val_zero, Matrix.cons_val_one, Matrix.cons_val]
        try rfl
      · simp only [off2_eq, off4_eq, off6_eq, off8_eq, off10_eq, off12_eq, off14_eq, off15_eq, off16_eq, off17_eq, off18_eq, off19_eq, off20_eq, off21_eq, off22_eq, off23_eq, off24_eq, off25_eq, off26_eq, off27_eq, off28_eq, off29_eq, off30_eq, off31_eq, off32_eq, off33_eq, off34_eq, off35_eq, off36_eq, off37_eq, off38_eq, off39_eq, off40_eq, off41_eq, off42_eq, off43_eq, off44_eq, off45_eq, off46_eq, off47_eq, off48_eq, off49_eq, off50_eq, off51_eq, off52_eq, off53_eq, off54_eq, off55_eq, off56_eq,
          Matrix.cons_val_zero, Matrix.cons_val_one, Matrix.cons_val]
        try rfl
    rfl
  · refine (vec_at _ _ _ _ _ _).trans ?_
    rw [off57_eq]; rfl
  · refine (vec_at _ _ _ _ _ _).trans ?_
    rw [off57_eq]; rfl

/-- The inner loop's pieces before trip `n`: each is a row of the tile, agreeing with the result, and every row before `n` is
    there. -/
theorem pieces_t2 (t1 : Fin k0_t1_loop.trips) (v61 : BitVec 32) : ∀ n, n ≤ k0_t2_loop.trips →
    (∀ q ∈ pb_k0_t2 𝒱 c bd i arg1 harg1 arg2 harg2 arg3 harg3 arg4 harg4 arg5 harg5 arg6 harg6 arg7 harg7 arg8 harg8 arg9 harg9 arg10 harg10 t1 v61 X2 X3 X4 X9 n, ∀ x, q.2 x = res arg2 arg3 arg4 arg9 X2 X3 X4 X9 (q.1.emb x))
    ∧ (∀ k : Fin k0_t2_loop.trips, k.val < n → ∀ y : S14x16x512.Idx, (y 0).val = k.val → (y 2).val / 128 = t1.val →
        ∃ q ∈ pb_k0_t2 𝒱 c bd i arg1 harg1 arg2 harg2 arg3 harg3 arg4 harg4 arg5 harg5 arg6 harg6 arg7 harg7 arg8 harg8 arg9 harg9 arg10 harg10 t1 v61 X2 X3 X4 X9 n, y ∈ q.1.set) := by
  intro n
  induction n with
  | zero => exact fun _ => ⟨fun q hq => absurd hq (by rw [pb_k0_t2.eq_1]; exact List.not_mem_nil), fun k hk => absurd hk (by omega)⟩
  | succ n ih =>
    intro hn
    obtain ⟨ih1, ih2⟩ := ih (by omega)
    have hs := pb_k0_t2_succ (F := F) 𝒱 c bd i arg1 harg1 arg2 harg2 arg3 harg3 arg4 harg4 arg5 harg5 arg6 harg6 arg7 harg7 arg8 harg8 arg9 harg9 arg10 harg10 t1 v61 X2 X3 X4 X9 ⟨n, hn⟩
    obtain ⟨P, hP, hv⟩ := trip_t2 𝒱 c bd i arg1 harg1 arg2 harg2 arg3 harg3 arg4 harg4 arg5 harg5 arg6 harg6 arg7 harg7 arg8 harg8 arg9 harg9 arg10 harg10 X2 X3 X4 X9 t1 v61 ⟨n, hn⟩
    rw [hP] at hs
    have hs' : pb_k0_t2 (F := F) 𝒱 c bd i arg1 harg1 arg2 harg2 arg3 harg3 arg4 harg4 arg5 harg5 arg6 harg6 arg7 harg7 arg8 harg8 arg9 harg9 arg10 harg10 t1 v61 X2 X3 X4 X9 (n + 1) = _ := hs
    rw [hs']
    refine ⟨fun q hq => ?_, fun k hk y h0 h2 => ?_⟩
    · rcases List.mem_append.mp hq with hq | hq
      · obtain rfl := List.mem_singleton.mp hq
        intro x
        have hx : x = ix3 (0 : Fin 1) (x 1) (x 2) := by
          funext a
          match a with
          | ⟨0, _⟩ => exact Fin.ext (Nat.lt_one_iff.mp (show (x 0).val < 1 from (x 0).isLt))
          | ⟨1, _⟩ => rfl
          | ⟨2, _⟩ => rfl
        rw [hx]
        exact hv (x 1) (x 2)
      · exact ih1 q hq
    · by_cases hkn : k.val < n
      · obtain ⟨q, hq, hy⟩ := ih2 k hkn y h0 h2
        exact ⟨q, List.mem_append_right _ hq, hy⟩
      · refine ⟨_, List.mem_append_left _ (List.mem_singleton.mpr rfl), ?_⟩
        rw [Rect.mem_set_unit]
        have e : n = k.val := by omega
        intro a
        rw [off58_eq]
        have h1 := (y 1).isLt
        match a with
        | ⟨0, _⟩ => show n ≤ (y 0).val ∧ (y 0).val < n + 1; omega
        | ⟨1, _⟩ => show 0 ≤ (y 1).val ∧ (y 1).val < 0 + 16; exact ⟨Nat.zero_le _, by simpa using h1⟩
        | ⟨2, _⟩ => show 128 * t1.val ≤ (y 2).val ∧ (y 2).val < 128 * t1.val + 128; omega

/-- The outer loop's pieces before tile `n`. -/
theorem pieces_t1 : ∀ n, n ≤ k0_t1_loop.trips →
    (∀ q ∈ pb_k0_t1 𝒱 c bd i arg1 harg1 arg2 harg2 arg3 harg3 arg4 harg4 arg5 harg5 arg6 harg6 arg7 harg7 arg8 harg8 arg9 harg9 arg10 harg10 X2 X3 X4 X9 n, ∀ x, q.2 x = res arg2 arg3 arg4 arg9 X2 X3 X4 X9 (q.1.emb x))
    ∧ (∀ y : S14x16x512.Idx, (y 2).val / 128 < n → ∃ q ∈ pb_k0_t1 𝒱 c bd i arg1 harg1 arg2 harg2 arg3 harg3 arg4 harg4 arg5 harg5 arg6 harg6 arg7 harg7 arg8 harg8 arg9 harg9 arg10 harg10 X2 X3 X4 X9 n, y ∈ q.1.set) := by
  intro n
  induction n with
  | zero => exact fun _ => ⟨fun q hq => absurd hq (by rw [pb_k0_t1.eq_1]; exact List.not_mem_nil), fun y hk => absurd hk (by omega)⟩
  | succ n ih =>
    intro hn
    obtain ⟨ih1, ih2⟩ := ih (by omega)
    have hs := pb_k0_t1_succ (F := F) 𝒱 c bd i arg1 harg1 arg2 harg2 arg3 harg3 arg4 harg4 arg5 harg5 arg6 harg6 arg7 harg7 arg8 harg8 arg9 harg9 arg10 harg10 X2 X3 X4 X9 ⟨n, hn⟩
    have ht : ∃ v, tripL_k0_t1 𝒱 c bd i arg1 harg1 arg2 harg2 arg3 harg3 arg4 harg4 arg5 harg5 arg6 harg6 arg7 harg7 arg8 harg8 arg9 harg9 arg10 harg10 X2 X3 X4 X9 ⟨n, hn⟩
        = pb_k0_t2 𝒱 c bd i arg1 harg1 arg2 harg2 arg3 harg3 arg4 harg4 arg5 harg5 arg6 harg6 arg7 harg7 arg8 harg8 arg9 harg9 arg10 harg10 ⟨n, hn⟩ v X2 X3 X4 X9 k0_t2_loop.trips := by
      unfold tripL_k0_t1 trip_k0_t1; exact ⟨_, rfl⟩
    obtain ⟨v, hv⟩ := ht
    rw [hv] at hs
    have hs' : pb_k0_t1 (F := F) 𝒱 c bd i arg1 harg1 arg2 harg2 arg3 harg3 arg4 harg4 arg5 harg5 arg6 harg6 arg7 harg7 arg8 harg8 arg9 harg9 arg10 harg10 X2 X3 X4 X9 (n + 1) = _ := hs
    rw [hs']
    obtain ⟨g1, g2⟩ := pieces_t2 𝒱 c bd i arg1 harg1 arg2 harg2 arg3 harg3 arg4 harg4 arg5 harg5 arg6 harg6 arg7 harg7 arg8 harg8 arg9 harg9 arg10 harg10 X2 X3 X4 X9 ⟨n, hn⟩ v k0_t2_loop.trips le_rfl
    refine ⟨fun q hq => ?_, fun y hy => ?_⟩
    · rcases List.mem_append.mp hq with hq | hq
      · exact g1 q hq
      · exact ih1 q hq
    · by_cases hkn : (y 2).val / 128 < n
      · obtain ⟨q, hq, hm⟩ := ih2 y hkn
        exact ⟨q, List.mem_append_right _ hq, hm⟩
      · have h0 : (y 0).val < k0_t2_loop.trips := (y 0).isLt
        obtain ⟨q, hq, hm⟩ := g2 ⟨(y 0).val, h0⟩ h0 y rfl (by show (y 2).val / 128 = n; omega)
        exact ⟨q, List.mem_append_left _ hq, hm⟩

/-- After both loops the buffer reads the result, whatever it held before. -/
theorem read_loops [∀ e, Nonempty (Elt F e)] (f : BufTy.Contents (Elt F) arg10.view.ty) :
    arg10.view.read (Elt F) (arg10.view.writes (Elt F) f (pb_k0_t1 𝒱 c bd i arg1 harg1 arg2 harg2 arg3 harg3 arg4 harg4 arg5 harg5 arg6 harg6 arg7 harg7 arg8 harg8 arg9 harg9 arg10 harg10 X2 X3 X4 X9 k0_t1_loop.trips))
      = res arg2 arg3 arg4 arg9 X2 X3 X4 X9 := by
  obtain ⟨h1, h2⟩ := pieces_t1 𝒱 c bd i arg1 harg1 arg2 harg2 arg3 harg3 arg4 harg4 arg5 harg5 arg6 harg6 arg7 harg7 arg8 harg8 arg9 harg9 arg10 harg10 X2 X3 X4 X9 k0_t1_loop.trips le_rfl
  have hc : ∀ y : S14x16x512.Idx, ∃ q ∈ pb_k0_t1 𝒱 c bd i arg1 harg1 arg2 harg2 arg3 harg3 arg4 harg4 arg5 harg5 arg6 harg6 arg7 harg7 arg8 harg8 arg9 harg9 arg10 harg10 X2 X3 X4 X9 k0_t1_loop.trips, y ∈ q.1.set := fun y => by
    refine h2 y ?_
    have h : (y 2).val < 512 := (y 2).isLt
    show (y 2).val / 128 < 4
    omega
  rw [View.read_writes_eq_canon _ _ _ hc]
  exact funext fun y => View.canon_apply_of_pieces _ _ h1 y (hc y)

end Trips

end Cert.ConvIdeal.Body
-- ==== Proof.ConvBody.lean ====
/- Hand-written, untrusted: ONE CALL OF THE CONVOLUTION'S BODY. From the inputs' blocks and what the padded image's buffer
   held, the body leaves the new padded image there, and the codes and scales of its normalised convolution in the outputs;
   what the result's scratch held before does not matter. -/
module

public import proofs.«01_k».proof.Proof.Gen.ConvIdeal.Frame
public import proofs.«01_k».proof.Proof.ConvTrip
public import Idealize.ShloMosaic.Lib.WritesUnit

@[expose] public section

set_option maxRecDepth 16384

noncomputable section

namespace Cert.ConvIdeal.Body

open Cert.ConvIdeal Cert.ConvIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The padded image: the block's codes in the interior, what was there before around it. -/
def padIn (x0 : Vec F S1x14x16x512 .i8) (prev : Vec F S20x32x512 .f32) : Vec F S20x32x512 .f32 := fun y =>
  if h : (3 ≤ (y 0).val ∧ (y 0).val < 17) ∧ (8 ≤ (y 1).val ∧ (y 1).val < 24) then
    k0_pay24 x0 (ix3 (⟨(y 0).val - 3, by omega⟩ : Fin 14) (⟨(y 1).val - 8, by omega⟩ : Fin 16) (y 2 : Fin 512))
  else prev y

/-- What the body leaves in the padded image's buffer: at the first point it clears it first. -/
def padNext (i : grid0.Coords) (x0 : Vec F S1x14x16x512 .i8) (prev : Vec F S20x32x512 .f32) : Vec F S20x32x512 .f32 :=
  padIn x0 (if (i 0).val = 0 then k0_pay23 else prev)

/-- The codes the body stores, from the padded image. -/
def out6 (xp : Vec F S20x32x512 .f32) (x1 : Vec F S49x512 .f32) (x2 x3 x4 x5 : Vec F S1x512 .f32) : Vec F S1x224x512 .i8 :=
  k0_pay3 (k0_pay26 (conv xp x1 x2 x3) x4) x5

/-- The scales the body stores, from the padded image. -/
def out7 (xp : Vec F S20x32x512 .f32) (x1 : Vec F S49x512 .f32) (x2 x3 x4 x5 : Vec F S1x512 .f32) : Vec F S1x1x224 .f32 :=
  k0_pay4 (k0_pay26 (conv xp x1 x2 x3) x4) x5

/-- The body's branch condition. -/
abbrev cond (i : grid0.Coords) : Prop := (Scalar.cmpi .ne (Scalar.extui (Scalar.cmpi .eq (BitVec.ofNat 32 (i 0).val) 0#32)) 0#32) = 1#1

/-- A load of a whole buffer reads its contents. -/
theorem readAt_whole {κ : Kind} {sp : Space} {s : Shape} {e : EltTy} {Val : EltTy → Type} (v : View sig κ sp s e) (X : v.ty.Contents Val)
    (off : Fin s.rank → ℕ) (h0 : ∀ a, off a = 0) (inb : ∀ a, off a + s.size a ≤ s.size a) :
    v.readAt Val (Rect.unit (s := s) off s.size inb).toLoadRect X = v.read Val X := by
  funext y
  rw [View.readAt_apply]
  refine congrArg (v.read Val X) (funext fun ax => Fin.ext ?_)
  show off ax + 1 * (y ax).val = (y ax).val
  rw [h0 ax]; omega

/-- A store of a whole buffer leaves what was stored. -/
theorem read_whole {κ : Kind} {sp : Space} {s : Shape} {e : EltTy} {Val : EltTy → Type} (v : View sig κ sp s e) (X : v.ty.Contents Val)
    (off : Fin s.rank → ℕ) (h0 : ∀ a, off a = 0) (inb : ∀ a, off a + s.size a ≤ s.size a) (w : s.Idx → Val e) (L : List (View.Piece Val s e)) :
    v.read Val (v.writes Val X (⟨Rect.unit (s := s) off s.size inb, w⟩ :: L)) = w :=
  funext fun y => View.read_writes_cons_unit_of_mem v X inb w L y y rfl fun a => by rw [h0 a, Nat.zero_add]

/-- A store of the codes over the interior leaves the padded image. -/
theorem read_pad {κ : Kind} {sp : Space} (v : View sig κ sp S20x32x512 .f32) (X : v.ty.Contents (Elt F))
    (inb : ∀ a, (![3, 8, 0] : Fin 3 → ℕ) a + S14x16x512.size a ≤ S20x32x512.size a) (x0 : Vec F S1x14x16x512 .i8)
    (L : List (View.Piece (Elt F) S20x32x512 .f32)) (prev : Vec F S20x32x512 .f32) (hL : v.read (Elt F) (v.writes (Elt F) X L) = prev) :
    v.read (Elt F) (v.writes (Elt F) X (⟨Rect.unit (s := S20x32x512) ![3, 8, 0] S14x16x512.size inb, k0_pay24 x0⟩ :: L)) = padIn x0 prev := by
  subst hL
  funext y
  have h2 : (y 2).val < 512 := (y 2).isLt
  unfold padIn
  by_cases h : (3 ≤ (y 0).val ∧ (y 0).val < 17) ∧ (8 ≤ (y 1).val ∧ (y 1).val < 24)
  · rw [dif_pos h]
    refine View.read_writes_cons_unit_of_mem v X inb (k0_pay24 x0) L y (ix3 (⟨(y 0).val - 3, by omega⟩ : Fin 14) (⟨(y 1).val - 8, by omega⟩ : Fin 16) (y 2 : Fin 512)) rfl fun a => ?_
    match a with
    | ⟨0, _⟩ => show (y 0).val = 3 + ((y 0).val - 3); omega
    | ⟨1, _⟩ => show (y 1).val = 8 + ((y 1).val - 8); omega
    | ⟨2, _⟩ => show (y 2).val = 0 + (y 2).val; omega
  · rw [dif_neg h]
    by_cases h' : 3 ≤ (y 0).val ∧ (y 0).val < 17
    · refine View.read_writes_cons_unit_of_not_mem v X inb (k0_pay24 x0) L y rfl (1 : Fin 3) ?_
      show (y 1).val < 8 ∨ 8 + 16 ≤ (y 1).val
      omega
    · refine View.read_writes_cons_unit_of_not_mem v X inb (k0_pay24 x0) L y rfl (0 : Fin 3) ?_
      show (y 0).val < 3 ∨ 3 + 14 ≤ (y 0).val
      omega

theorem zero2 : ∀ a : Fin 2, (![0, 0] : Fin 2 → ℕ) a = 0 := by decide
theorem zero3 : ∀ a : Fin 3, (![0, 0, 0] : Fin 3 → ℕ) a = 0 := by decide
theorem zero4 : ∀ a : Fin 4, (![0, 0, 0, 0] : Fin 4 → ℕ) a = 0 := by decide

/-- The branch is taken at the first point exactly. -/
theorem cond_iff (i : grid0.Coords) : cond i ↔ (i 0).val = 0 := by
  have h : ∀ n : Fin (grid0.bound 0), (Scalar.cmpi .ne (Scalar.extui (Scalar.cmpi .eq (BitVec.ofNat 32 n.val) 0#32)) 0#32) = 1#1 ↔ n.val = 0 := by decide +kernel
  exact h (i 0)

set_option maxHeartbeats 2000000 in
/-- The body's triple. -/
theorem body_run (c : Dev nD) (i : grid0.Coords) (arg1 : Memref sig .tc .vmem S1x14x16x512 .i8) (harg1 : arg1.IsWhole) (arg2 : Memref sig .tc .vmem S49x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x224x512 .i8) (harg7 : arg7.IsWhole) (arg8 : Memref sig .tc .vmem S1x1x224 .f32) (harg8 : arg8.IsWhole) (arg9 : Memref sig .tc .vmem S20x32x512 .f32) (harg9 : arg9.IsWhole) (arg10 : Memref sig .tc .vmem S14x16x512 .f32) (harg10 : arg10.IsWhole)
    (x0 : Vec F S1x14x16x512 .i8) (x1 : Vec F S49x512 .f32) (x2 : Vec F S1x512 .f32) (x3 : Vec F S1x512 .f32) (x4 : Vec F S1x512 .f32) (x5 : Vec F S1x512 .f32) (xs0 : Vec F S20x32x512 .f32)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out6 (padNext i x0 xs0) x1 x2 x3 x4 x5) ∗ owns (c : Thread nD τ) arg8 fullShare (out7 (padNext i x0 xs0) x1 x2 x3 x4 x5) ∗ owns (c : Thread nD τ) arg9 fullShare (padNext i x0 xs0) ∗ (∃ d, owns (c : Thread nD τ) arg10 fullShare d)) -∗ K ⟨⟩))
          ⊢ wp frame (wpE (defs₀ (F := F)) Variants.none c none) E (cc0_conv_ln i arg1 harg1 arg2 harg2 arg3 harg3 arg4 harg4 arg5 harg5 arg6 harg6 arg7 harg7 arg8 harg8 arg9 harg9 arg10 harg10) K := by
  by_cases hc0 : cond i
  · simp only [cc0_conv_ln_eq_skeleton]; unfold cc0_conv_ln_skel
    simp only [k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    have hpad : arg9.view.read (Elt F) (arg9.view.writes (Elt F) arg9.view.junk (body_run.sl.HS0_2 c arg1 harg1 x0)) = padNext i x0 xs0 := by
      unfold padNext
      rw [if_pos ((cond_iff i).1 hc0)]
      refine (read_pad arg9.view _ _ _ _ _ (read_whole _ _ _ zero3 _ _ _)).trans ?_
      exact congrArg (padIn · _) ((readAt_whole _ _ _ zero4 _).trans (harg1.read_unread _))
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      refine (read_whole _ _ _ zero3 _ _ _).trans ?_
      refine congrArg₂ k0_pay3 ?_ ((readAt_whole _ _ _ zero2 _).trans (harg6.read_unread _))
      refine congrArg₂ k0_pay26 ((readAt_whole _ _ _ zero3 _).trans ((read_loops _ _ _ _ arg1 harg1 arg2 harg2 arg3 harg3 arg4 harg4 arg5 harg5 arg6 harg6 arg7 harg7 arg8 harg8 arg9 harg9 arg10 harg10 _ _ _ _ _).trans ?_)) ((readAt_whole _ _ _ zero2 _).trans (harg5.read_unread _))
      exact congr (congr (congrArg₂ conv hpad (harg2.read_unread _)) (harg3.read_unread _)) (harg4.read_unread _)
    isplitl [H7]
    · iexists _; isplitr; swap; · iexact H7
      ipureintro
      refine (read_whole _ _ _ zero3 _ _ _).trans ?_
      refine congrArg₂ k0_pay4 ?_ ((readAt_whole _ _ _ zero2 _).trans (harg6.read_unread _))
      refine congrArg₂ k0_pay26 ((readAt_whole _ _ _ zero3 _).trans ((read_loops _ _ _ _ arg1 harg1 arg2 harg2 arg3 harg3 arg4 harg4 arg5 harg5 arg6 harg6 arg7 harg7 arg8 harg8 arg9 harg9 arg10 harg10 _ _ _ _ _).trans ?_)) ((readAt_whole _ _ _ zero2 _).trans (harg5.read_unread _))
      exact congr (congr (congrArg₂ conv hpad (harg2.read_unread _)) (harg3.read_unread _)) (harg4.read_unread _)
    isplitl [HS0]
    · iexists _; isplitr; swap; · iexact HS0
      ipureintro
      exact hpad
    iexists _, _; isplitr; swap; · iexact HS1
    ipureintro; rfl
  · simp only [cc0_conv_ln_eq_skeleton]; unfold cc0_conv_ln_skel
    simp only [k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec (disch := first | sl_exact hc0)
    sl_step
    have hpad : arg9.view.read (Elt F) (arg9.view.writes (Elt F) (harg9.unread xs0) (⟨Rect.unit (s := S20x32x512) ![3, 8, 0] S14x16x512.size inb_S20x32x512_S14x16x512_3_8_0, k0_pay24 (View.readAt (Elt F) arg1.view (Rect.unit ![0, 0, 0, 0] S1x14x16x512.size inb_S1x14x16x512_S1x14x16x512_0_0_0_0).toLoadRect (harg1.unread x0))⟩ :: [])) = padNext i x0 xs0 := by
      unfold padNext
      rw [if_neg (mt (cond_iff i).2 hc0)]
      refine (read_pad arg9.view _ _ _ _ _ (harg9.read_unread _)).trans ?_
      exact congrArg (padIn · _) ((readAt_whole _ _ _ zero4 _).trans (harg1.read_unread _))
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      refine (read_whole _ _ _ zero3 _ _ _).trans ?_
      refine congrArg₂ k0_pay3 ?_ ((readAt_whole _ _ _ zero2 _).trans (harg6.read_unread _))
      refine congrArg₂ k0_pay26 ((readAt_whole _ _ _ zero3 _).trans ((read_loops _ _ _ _ arg1 harg1 arg2 harg2 arg3 harg3 arg4 harg4 arg5 harg5 arg6 harg6 arg7 harg7 arg8 harg8 arg9 harg9 arg10 harg10 _ _ _ _ _).trans ?_)) ((readAt_whole _ _ _ zero2 _).trans (harg5.read_unread _))
      exact congr (congr (congrArg₂ conv hpad (harg2.read_unread _)) (harg3.read_unread _)) (harg4.read_unread _)
    isplitl [H7]
    · iexists _; isplitr; swap; · iexact H7
      ipureintro
      refine (read_whole _ _ _ zero3 _ _ _).trans ?_
      refine congrArg₂ k0_pay4 ?_ ((readAt_whole _ _ _ zero2 _).trans (harg6.read_unread _))
      refine congrArg₂ k0_pay26 ((readAt_whole _ _ _ zero3 _).trans ((read_loops _ _ _ _ arg1 harg1 arg2 harg2 arg3 harg3 arg4 harg4 arg5 harg5 arg6 harg6 arg7 harg7 arg8 harg8 arg9 harg9 arg10 harg10 _ _ _ _ _).trans ?_)) ((readAt_whole _ _ _ zero2 _).trans (harg5.read_unread _))
      exact congr (congr (congrArg₂ conv hpad (harg2.read_unread _)) (harg3.read_unread _)) (harg4.read_unread _)
    isplitl [HS0]
    · iexists _; isplitr; swap; · iexact HS0
      ipureintro
      exact hpad
    iexists _, _; isplitr; swap; · iexact HS1
    ipureintro; rfl

end Cert.ConvIdeal.Body
-- ==== Proof.ConvRun.lean ====
/- Hand-written, untrusted: THE CONVOLUTION'S RUN. Between points the padded image's buffer holds the last block's padded image;
   the body's triple then closes every point's obligation, so the run ends with each output array at the blocks' stored values
   and each argument unchanged. -/
module

public import proofs.«01_k».proof.Proof.ConvBody

@[expose] public section

set_option maxRecDepth 16384

noncomputable section

namespace Cert.ConvIdeal.Body

open Cert.ConvIdeal Cert.ConvIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The padded image of the block at a point: its codes with zeros around. -/
def padAt (c : Dev nD) (t : Fin cfg0.N) : Vec F S20x32x512 .f32 := padIn (iblk m c 0 t) k0_pay23

/-- A padded image overwritten by another block's codes is that block's. -/
theorem padIn_padIn (x x' : Vec F S1x14x16x512 .i8) (z : Vec F S20x32x512 .f32) : padIn x (padIn x' z) = padIn x z := by
  funext y; unfold padIn; split_ifs <;> rfl

theorem coord0 : ∀ t : Fin cfg0.N, ((grid0.coords t) 0).val = t.val := (by decide +kernel : ∀ t : Fin grid0.N, _)

theorem padNext_zero (c : Dev nD) (t : Fin cfg0.N) (h : t.val = 0) (xs : Vec F S20x32x512 .f32) :
    padNext (grid0.coords t) (iblk m c 0 t) xs = padAt m c t := by
  unfold padNext padAt; rw [if_pos ((coord0 t).trans h)]

theorem padNext_pos (c : Dev nD) (t s : Fin cfg0.N) (h : t.val ≠ 0) :
    padNext (grid0.coords t) (iblk m c 0 t) (padAt m c s) = padAt m c t := by
  unfold padNext padAt; rw [if_neg (fun e => h ((coord0 t).symm.trans e)), padIn_padIn]

/-! ## The memrefs of a point -/

abbrev ms0_0 (t : Fin cfg0.N) : Memref sig .tc .vmem S1x14x16x512 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S49x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x224x512 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x224 .f32 := win0_7.stage (cfg0.slots t 7)
abbrev hs0_7 (t : Fin cfg0.N) : (ms0_7 t).IsWhole := hstage0_7 ((cfg0.slots t 7).cast nbuf0_7)
abbrev scM0_0 : Memref sig .tc .vmem S20x32x512 .f32 := Memref.whole cc0_scratch0
abbrev scM0_1 : Memref sig .tc .vmem S14x16x512 .f32 := Memref.whole cc0_scratch1

/-- The region's scratch buffers as memrefs at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The invariant before position `n`: before the first point every scratch at anything; afterwards the padded image of the
    block of the point before, the result's scratch at anything. -/
def PhiS (c : Dev nD) : (n : ℕ) → n ≤ cfg0.N → sProp 𝕄
  | 0, _ => Pipeline.ΦA spec0 c
  | n + 1, hn => iprop(iprop(owns (c : Thread nD τ) scM0_0 fullShare (padAt m c (⟨n, hn⟩)) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (t : Fin cfg0.N) :
    PhiS m c (t.val + 1) t.isLt = iprop(iprop(owns (c : Thread nD τ) scM0_0 fullShare (padAt m c (t)) ∗ (∃ d, owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (padAt m c (⟨n - 1, by omega⟩)) ∗ (∃ d, owns (c : Thread nD τ) scM0_1 fullShare d)) ∗ (∃ r, prngReg c r)) := by
  cases n with
  | zero => exact absurd rfl hz
  | succ n => rfl

/-- The pipeline's proof data: the inputs' buffers stay at their blocks, the outputs are left at the stored codes and scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (padAt m c t) (iblk m c 1 t) (iblk m c 2 t) (iblk m c 3 t) (iblk m c 4 t) (iblk m c 5 t)
    | ⟨7, _⟩ => out7 (padAt m c t) (iblk m c 1 t) (iblk m c 2 t) (iblk m c 3 t) (iblk m c 4 t) (iblk m c 5 t)
    | ⟨_ + 8, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 (padAt m c t) (iblk m c 1 t) (iblk m c 2 t) (iblk m c 3 t) (iblk m c 4 t) (iblk m c 5 t) := by dsimp only [dats]
theorem after0_7 (c : Dev nD) (t : Fin cfg0.N) : (dats m 0 c).after 7 t = out7 (padAt m c t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

/-- The body at any point, from its triple. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  by_cases hz : t.val = 0
  · rw [PhiS_castSucc m c t, PhiS_zero m c _ _ hz, PhiA0_eq]
    iintro ⟨⟨⟨⟨%xs, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_run c (grid0.coords t) _ _ _ _ _ _ _ _ _ _ _ _ _ _ _ _ _ _ _ _ (iblk m c 0 t) (iblk m c 1 t) (iblk m c 2 t) (iblk m c 3 t) (iblk m c 4 t) (iblk m c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    rw [padNext_zero m c t hz xs]
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_run c (grid0.coords t) _ _ _ _ _ _ _ _ _ _ _ _ _ _ _ _ _ _ _ _ (iblk m c 0 t) (iblk m c 1 t) (iblk m c 2 t) (iblk m c 3 t) (iblk m c 4 t) (iblk m c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    rw [padNext_pos m c t _ hz]
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the scratch buffers back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- The frame claim at any `F`: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.ConvIdeal.Body
-- ==== Proof.ConvModel.lean ====
/- Hand-written, untrusted: THE CONVOLUTION'S MODEL. One pixel's depthwise sum as an integer, its dequantised value, and the
   layer norm and row quantisation of a pixel's channels; then the convolution's body, read at an index, is that model. -/
module

public import proofs.«01_k».proof.Proof.ConvBody
public import proofs.«01_k».proof.Proof.Model

@[expose] public section

set_option maxRecDepth 16384

noncomputable section

namespace Cert.ConvModel

open Idealize.ShloMosaic Idealize.ShloMosaic.TcCoe Idealize.ShloMosaic.Pointwise Cert.Model

/-- An image's codes and the taps, as the convolution reads them: rows and columns of the image padded by three zeros on each
    side, and taps in row-major order. -/
structure Codes where
  x : Fin 14 → Fin 16 → Fin 512 → BitVec 8
  w : ℕ → Fin 512 → BitVec 8

namespace Codes
variable (I : Codes)

/-- The padded image's code at row `a` and column `b`, zero outside the image. -/
def pad (a b : ℕ) (c : Fin 512) : ℤ :=
  if h : (3 ≤ a ∧ a < 17) ∧ (3 ≤ b ∧ b < 19) then (I.x ⟨a - 3, by omega⟩ ⟨b - 3, by omega⟩ c).toInt else 0

/-- The sum over the first `n` taps at a pixel. -/
def sum (r p : ℕ) (c : Fin 512) : ℕ → ℤ
  | 0 => 0
  | n + 1 => sum r p c n + I.pad (r + n / 7) (n % 7 + p) c * (I.w n c).toInt

theorem toInt8 (b : BitVec 8) : |b.toInt| ≤ 128 := by
  have h1 := BitVec.toInt_lt (x := b); have h2 := BitVec.le_toInt (x := b)
  rw [abs_le]; norm_num at h1 h2; omega

theorem pad_le (a b : ℕ) (c : Fin 512) : |I.pad a b c| ≤ 128 := by
  unfold pad; split
  · exact toInt8 _
  · norm_num

/-- A term's magnitude. -/
theorem term_le (a b n : ℕ) (c : Fin 512) : |I.pad a b c * (I.w n c).toInt| ≤ 16384 := by
  rw [abs_mul]
  calc |I.pad a b c| * |(I.w n c).toInt| ≤ 128 * 128 := mul_le_mul (I.pad_le a b c) (toInt8 _) (abs_nonneg _) (by norm_num)
    _ = 16384 := by norm_num

/-- The sum over `n` taps fits: its magnitude is at most `16384 n`. -/
theorem sum_le (r p : ℕ) (c : Fin 512) : ∀ n, |I.sum r p c n| ≤ 16384 * n
  | 0 => by simp [sum]
  | n + 1 => by
    have h1 := sum_le r p c n
    have h2 := I.term_le (r + n / 7) (n % 7 + p) n c
    have h3 := abs_add_le (I.sum r p c n) (I.pad (r + n / 7) (n % 7 + p) c * (I.w n c).toInt)
    simp only [sum]; push_cast; omega

end Codes

/-- One pixel's channels: the layer norm of `d` with gain `g` and offset `b`. -/
def mean (d : Fin 512 → EReal) : EReal := Ideal.div (∑ k, d k) (Ideal.ofBits .f32 0x44000000#32)

/-- The centred values. -/
def cen (d : Fin 512 → EReal) (k : Fin 512) : EReal := d k - mean d

/-- The normalised values. -/
def nrm (d g b : Fin 512 → EReal) (k : Fin 512) : EReal :=
  Ideal.div (cen d k) (Ideal.sqrt (mean (fun k => cen d k * cen d k) + Ideal.ofBits .f32 0x358637BD#32)) * g k + b k

/-- The whole model's data for one image. -/
structure Data extends Codes where
  sc : Fin 512 → EReal
  bias : Fin 512 → EReal
  g : Fin 512 → EReal
  b : Fin 512 → EReal

namespace Data
variable (I : Data)

/-- The dequantised convolution. -/
def d (r : Fin 14) (p : Fin 16) (c : Fin 512) : EReal := (((I.sum r.val p.val c 49 : ℤ) : ℝ) : EReal) * I.sc c + I.bias c

/-- The normalised pixel. -/
def n (p : Fin 224) (c : Fin 512) : EReal := nrm (I.d (rowY p) (rowX p)) I.g I.b c

/-- The pixel's scale. -/
def S (p : Fin 224) : EReal := rowScale (I.n p)

/-- The pixel's codes. -/
def Q (p : Fin 224) (c : Fin 512) : BitVec 8 := Ideal.fptosi 8 (quant (I.n p) c)

end Data

/-- Image `i` of a batch of codes `x` with scale `xs`, under taps `w` with channel scales `ws` and bias `b`, and the norm's
    gain `g` and offset `be`. -/
def image (x : Fin 128 → Fin 14 → Fin 16 → Fin 512 → BitVec 8) (xs : EReal) (w : Fin 7 → Fin 7 → Fin 512 → BitVec 8)
    (ws b g be : Fin 512 → EReal) (i : Fin 128) : Data where
  x := x i
  w n := w ⟨n / 7 % 7, Nat.mod_lt _ (by decide)⟩ ⟨n % 7, Nat.mod_lt _ (by decide)⟩
  sc c := xs * ws c
  bias := b
  g := g
  b := be

/-! ## The body -/

section Body
open Cert.ConvIdeal Cert.ConvIdeal.Gen Cert.ConvIdeal.Body

theorem zeros_at (y : S20x32x512.Idx) : k0_pay23 (F := Ideal) y = (0 : EReal) := by
  unfold k0_pay23; pointwise

theorem codes_at (x0 : Vec Ideal S1x14x16x512 .i8) (r : Fin 14) (p : Fin 16) (c : Fin 512) :
    k0_pay24 (F := Ideal) x0 (ix3 r p c) = cv (x0 (ix4 0 r p c)) := by
  unfold k0_pay24; pointwise; rfl

variable (I : Data) (x0 : Vec Ideal S1x14x16x512 .i8) (x1 : Vec Ideal S49x512 .f32) (x2 x3 x4 x5 : Vec Ideal S1x512 .f32)
  (h0 : ∀ r p c, x0 (ix4 0 r p c) = I.x r p c) (h1 : ∀ (n : Fin 49) c, x1 (ix2 n c) = cv (I.w n.val c))
  (h2 : ∀ c, x2 (ix2 0 c) = I.sc c) (h3 : ∀ c, x3 (ix2 0 c) = I.bias c) (h4 : ∀ c, x4 (ix2 0 c) = I.g c) (h5 : ∀ c, x5 (ix2 0 c) = I.b c)

include h0 in
/-- The padded image's buffer holds the padded image, five columns further right. -/
theorem xAt_pad (a b : ℕ) (ha : a < 20) (hb : b < 22) (c : Fin 512) :
    xAt (padIn (F := Ideal) x0 (k0_pay23 (F := Ideal))) a (5 + b) c.val = (((I.pad a b c : ℤ) : ℝ) : EReal) := by
  have ea : a % 20 = a := Nat.mod_eq_of_lt ha
  have eb : (5 + b) % 32 = 5 + b := Nat.mod_eq_of_lt (by omega)
  have ec : c.val % 512 = c.val := Nat.mod_eq_of_lt c.isLt
  unfold xAt padIn Codes.pad
  by_cases h : (3 ≤ a ∧ a < 17) ∧ (3 ≤ b ∧ b < 19)
  · rw [dif_pos h]
    refine (dif_pos (?_ : (3 ≤ a % 20 ∧ a % 20 < 17) ∧ (8 ≤ (5 + b) % 32 ∧ (5 + b) % 32 < 24))).trans ?_
    · omega
    · have e1 : (⟨a % 20 - 3, by omega⟩ : Fin 14) = ⟨a - 3, by omega⟩ := Fin.ext (by show a % 20 - 3 = a - 3; omega)
      have e2 : (⟨(5 + b) % 32 - 8, by omega⟩ : Fin 16) = ⟨b - 3, by omega⟩ := Fin.ext (by show (5 + b) % 32 - 8 = b - 3; omega)
      have e3 : (⟨c.val % 512, by omega⟩ : Fin 512) = c := Fin.ext ec
      have e : I.x ⟨a % 20 - 3, by omega⟩ ⟨(5 + b) % 32 - 8, by omega⟩ ⟨c.val % 512, by omega⟩ = I.x ⟨a - 3, by omega⟩ ⟨b - 3, by omega⟩ c := by
        rw [e1, e2, e3]
      exact (codes_at x0 _ _ _).trans (congrArg cv ((h0 _ _ _).trans e))
  · rw [dif_neg h]
    refine (dif_neg (?_ : ¬ ((3 ≤ a % 20 ∧ a % 20 < 17) ∧ (8 ≤ (5 + b) % 32 ∧ (5 + b) % 32 < 24)))).trans ?_
    · omega
    · refine (zeros_at _).trans ?_
      norm_num

include h0 h1 in
/-- The kernel's chain of multiply-adds is the integer sum. -/
theorem chain_at (r : Fin 14) (p : Fin 16) (c : Fin 512) : ∀ n, n ≤ 49 →
    chain (F := Ideal) (padIn x0 (k0_pay23 (F := Ideal))) x1 r.val p.val c.val n = (((I.sum r.val p.val c n : ℤ) : ℝ) : EReal) := by
  intro n
  induction n with
  | zero => intro _; show Ideal.ofBits .f32 0#32 = _; simp [Codes.sum, Ideal.ofBits, Ideal.ieee]
  | succ n ih =>
    intro hn
    have hx := xAt_pad I x0 h0 (r.val + n / 7) (n % 7 + p.val) (by omega) (by omega) c
    rw [← add_assoc] at hx
    have hw : wAt (α := Ideal .f32) x1 n c.val = (((I.w n c).toInt : ℝ) : EReal) := by
      refine Eq.trans ?_ (h1 ⟨n, by omega⟩ c)
      unfold wAt
      have e1 : (⟨n % 49, Nat.mod_lt _ (by decide)⟩ : Fin 49) = ⟨n, by omega⟩ := Fin.ext (Nat.mod_eq_of_lt (by omega))
      have e2 : (⟨c.val % 512, Nat.mod_lt _ (by decide)⟩ : Fin 512) = c := Fin.ext (Nat.mod_eq_of_lt c.isLt)
      rw [e1, e2]
    show (chain (F := Ideal) (padIn x0 (k0_pay23 (F := Ideal))) x1 r.val p.val c.val n : EReal)
      + xAt (α := EReal) (padIn (F := Ideal) x0 (k0_pay23 (F := Ideal))) (r.val + n / 7) (5 + n % 7 + p.val) c.val * wAt (α := EReal) x1 n c.val = _
    refine (congrArg₂ (fun a b : EReal => a + b) (ih (by omega)) (congrArg₂ (fun a b : EReal => a * b) hx hw)).trans ?_
    simp only [Codes.sum]
    push_cast
    rfl

theorem vAt_at (v : Vec Ideal S1x512 .f32) (c : Fin 512) : vAt (α := Ideal .f32) v c.val = v (ix2 0 c) := by
  have e2 : (⟨c.val % 512, Nat.mod_lt _ (by decide)⟩ : Fin 512) = c := Fin.ext (Nat.mod_eq_of_lt c.isLt)
  unfold vAt; rw [e2]

include h0 h1 h2 h3 in
/-- The convolution at a pixel and channel. -/
theorem conv_d (r : Fin 14) (p : Fin 16) (c : Fin 512) :
    conv (F := Ideal) (padIn x0 (k0_pay23 (F := Ideal))) x1 x2 x3 (ix3 r p c) = I.d r p c := by
  refine (conv_at _ _ _ _ r p c).trans ?_
  exact congrArg₂ (fun a b : EReal => a + b) (congrArg₂ (fun a b : EReal => a * b) (chain_at I x0 x1 h0 h1 r p c 49 le_rfl)
    ((vAt_at x2 c).trans (h2 c))) ((vAt_at x3 c).trans (h3 c))

theorem nrm_at (D : Vec Ideal S14x16x512 .f32) (p : Fin 224) (c : Fin 512) :
    k0_pay1 (F := Ideal) (k0_pay26 D x4) x5 (ix2 p c)
      = nrm (fun c => D (ix3 (rowY p) (rowX p) c)) (fun c => x4 (ix2 0 c)) (fun c => x5 (ix2 0 c)) c := by
  unfold k0_pay1 k0_pay26; pointwise
  rfl

include h0 h1 h2 h3 h4 h5 in
/-- The normalised pixel. -/
theorem n_at (p : Fin 224) (c : Fin 512) :
    k0_pay1 (F := Ideal) (k0_pay26 (conv (padIn x0 (k0_pay23 (F := Ideal))) x1 x2 x3) x4) x5 (ix2 p c) = I.n p c := by
  refine (nrm_at x4 x5 _ p c).trans ?_
  simp only [conv_d I x0 x1 x2 x3 h0 h1 h2 h3, h4, h5]; rfl

/-- A row's scale. -/
theorem scale_at (v : Vec Ideal S224x512 .f32) (p : Fin 224) :
    k0_pay2 (F := Ideal) v x5 (ix2 p 0) = rowScale (fun k => k0_pay1 (F := Ideal) v x5 (ix2 p k)) := by
  unfold k0_pay2; pointwise
  rfl

/-- A row's codes. -/
theorem quant_at (v : Vec Ideal S224x512 .f32) (p : Fin 224) (c : Fin 512) :
    k0_pay3 (F := Ideal) v x5 (ix3 0 p c) = Ideal.fptosi 8 (quant (fun k => k0_pay1 (F := Ideal) v x5 (ix2 p k)) c) := by
  unfold k0_pay3; pointwise
  simp only [scale_at]
  rfl

include h0 h1 h2 h3 h4 h5 in
/-- The codes the body stores. -/
theorem out6_at (p : Fin 224) (c : Fin 512) :
    out6 (F := Ideal) (padIn x0 (k0_pay23 (F := Ideal))) x1 x2 x3 x4 x5 (ix3 0 p c) = I.Q p c := by
  refine (quant_at x5 _ p c).trans ?_
  simp only [n_at I x0 x1 x2 x3 x4 x5 h0 h1 h2 h3 h4 h5]; rfl

include h0 h1 h2 h3 h4 h5 in
/-- The scales the body stores. -/
theorem out7_at (p : Fin 224) :
    out7 (F := Ideal) (padIn x0 (k0_pay23 (F := Ideal))) x1 x2 x3 x4 x5 (ix3 0 0 p) = I.S p := by
  have e : ∀ v : Vec Ideal S224x512 .f32, k0_pay4 (F := Ideal) v x5 (ix3 0 0 p) = k0_pay2 (F := Ideal) v x5 (ix2 p 0) := by
    intro v; unfold k0_pay4; pointwise
  refine (e _).trans ((scale_at x5 _ p).trans ?_)
  simp only [n_at I x0 x1 x2 x3 x4 x5 h0 h1 h2 h3 h4 h5]; rfl

end Body

end Cert.ConvModel

end
-- ==== Proof.ConvValue.lean ====
/- Hand-written, untrusted: WHAT THE CONVOLUTION LEAVES. The blocks that its windows read are an image's arguments, so each of
   its two result arrays is the model's function of its image, index by index. -/
module

public import proofs.«01_k».proof.Proof.ConvRun
public import proofs.«01_k».proof.Proof.ConvModel
public import proofs.«01_k».proof.Proof.Blk
public import Idealize.ShloMosaic.Lib.Claim
public import Idealize.ShloMosaic.Lib.Pipeline.ReadBack

@[expose] public section

set_option maxRecDepth 16384

noncomputable section

namespace Cert.ConvValue

open Cert.ConvIdeal Cert.ConvIdeal.Gen Cert.ConvIdeal.Body Idealize.ShloMosaic Idealize.ShloMosaic.TcCoe Idealize.SL.Sem
open Idealize.ShloMosaic.Pointwise Cert.Model Cert.ConvModel

variable (m : (ℓ : Loc nD τ sig) → Buf (Elt Ideal) ℓ)

/-- The windows' index maps. -/
theorem idx : ∀ t : Fin cfg0.N, win0_0.index t = ![t.val, 0, 0, 0] ∧ win0_1.index t = ![0, 0] ∧ win0_2.index t = ![0, 0]
    ∧ win0_3.index t = ![0, 0] ∧ win0_4.index t = ![0, 0] ∧ win0_5.index t = ![0, 0]
    ∧ win0_6.index t = ![t.val, 0, 0] ∧ win0_7.index t = ![t.val, 0, 0] :=
  (by decide +kernel : ∀ t : Fin grid0.N, _)

/-- A grid point's image. -/
abbrev im (t : Fin cfg0.N) : Fin 128 := ⟨t.val, lt_of_lt_of_eq t.isLt N_0⟩

/-- The arguments. -/
abbrev a0 (c : Dev nD) : Vec Ideal S128x14x16x512 .i8 := m ((c.tc : Thread nD τ).loc main_arg0)
abbrev a1 (c : Dev nD) : Vec Ideal S_ .f32 := m ((c.tc : Thread nD τ).loc main_arg1)
abbrev a2 (c : Dev nD) : Vec Ideal S7x7x512 .i8 := m ((c.tc : Thread nD τ).loc main_arg2)
abbrev a3 (c : Dev nD) : Vec Ideal S512 .f32 := m ((c.tc : Thread nD τ).loc main_arg3)
abbrev a4 (c : Dev nD) : Vec Ideal S512 .f32 := m ((c.tc : Thread nD τ).loc main_arg4)
abbrev a5 (c : Dev nD) : Vec Ideal S512 .f32 := m ((c.tc : Thread nD τ).loc main_arg5)
abbrev a6 (c : Dev nD) : Vec Ideal S512 .f32 := m ((c.tc : Thread nD τ).loc main_arg6)

/-- Image `i` of the arguments. -/
abbrev img (c : Dev nD) (i : Fin 128) : Data :=
  image (fun i r p k => a0 m c (ix4 i r p k)) (a1 m c ix0) (fun a b k => a2 m c (ix3 a b k)) (fun k => a3 m c (ix1 k))
    (fun k => a4 m c (ix1 k)) (fun k => a5 m c (ix1 k)) (fun k => a6 m c (ix1 k)) i

theorem signExtend_toInt (c : BitVec 8) : (BitVec.signExtend 32 c).toInt = c.toInt :=
  BitVec.toInt_signExtend_of_le (by omega)

/-- The windows' blocks, read at an index of the arguments. -/
theorem i0 (c : Dev nD) (t : Fin cfg0.N) (r : Fin 14) (p : Fin 16) (k : Fin 512) : iblk m c 0 t (ix4 0 r p k) = a0 m c (ix4 (im t) r p k) := by
  blk_simp [iblk]; entry_read; pointwise
  blk_ext [idx t, im]

theorem i1 (c : Dev nD) (t : Fin cfg0.N) (n : Fin 49) (k : Fin 512) : iblk m c 1 t (ix2 n k)
    = cv (a2 m c (ix3 ⟨n.val / 7 % 7, Nat.mod_lt _ (by decide)⟩ ⟨n.val % 7, Nat.mod_lt _ (by decide)⟩ k)) := by
  have e : ((View.whole main_v2).slice (win0_1.rect t)).emb (ix2 n k) = ix2 n k := by blk_ext [idx t, im]
  blk_simp [iblk]; entry_read
  refine (congrArg _ e).trans ?_
  pointwise
  have f : (⟨n.val / 7 % 7, Nat.mod_lt _ (by decide)⟩ : Fin 7) = ⟨n.val / 7, by omega⟩ := Fin.ext (Nat.mod_eq_of_lt (by omega))
  rw [f]
  exact congrArg (fun z : ℤ => ((z : ℝ) : EReal)) (signExtend_toInt _)

theorem i2 (c : Dev nD) (t : Fin cfg0.N) (k : Fin 512) : iblk m c 2 t (ix2 0 k) = (a1 m c ix0 : EReal) * a3 m c (ix1 k) := by
  blk_simp [iblk]; entry_read; pointwise
  refine congrArg (fun z : EReal => (a1 m c ix0 : EReal) * z) ?_
  blk_ext [idx t, im]

theorem i3 (c : Dev nD) (t : Fin cfg0.N) (k : Fin 512) : iblk m c 3 t (ix2 0 k) = a4 m c (ix1 k) := by
  blk_simp [iblk]; entry_read; pointwise
  blk_ext [idx t, im]

theorem i4 (c : Dev nD) (t : Fin cfg0.N) (k : Fin 512) : iblk m c 4 t (ix2 0 k) = a5 m c (ix1 k) := by
  blk_simp [iblk]; entry_read; pointwise
  blk_ext [idx t, im]

theorem i5 (c : Dev nD) (t : Fin cfg0.N) (k : Fin 512) : iblk m c 5 t (ix2 0 k) = a6 m c (ix1 k) := by
  blk_simp [iblk]; entry_read; pointwise
  blk_ext [idx t, im]

/-- The codes' array. -/
theorem arr6 (c : Dev nD) : (dats m 0 c).arrAt 6 cfg0.N = fun y => (img m c (y 0)).Q (y 1) (y 2) := by
  refine (dats m 0 c).arrAt_eq_of_covers 6 _ (by decide +kernel) fun t _ y => ?_
  blk_simp [idx t]
  rw [after0_6]
  have e : (win0_6.blk t).view.emb y = ix3 (im t) (y 1 : Fin 224) (y 2 : Fin 512) := by
    blk_ext [idx t, im]
  rw [e]
  exact (congrArg _ (Blk.eq_ix3_0 y)).trans (out6_at (img m c (im t)) _ _ _ _ _ _ (i0 m c t) (i1 m c t) (i2 m c t) (i3 m c t) (i4 m c t) (i5 m c t) (y 1) (y 2))

/-- The scales' array. -/
theorem arr7 (c : Dev nD) : (dats m 0 c).arrAt 7 cfg0.N = fun y => (img m c (y 0)).S (y 2) := by
  refine (dats m 0 c).arrAt_eq_of_covers 7 _ (by decide +kernel) fun t _ y => ?_
  blk_simp [idx t]
  rw [after0_7]
  have e : (win0_7.blk t).view.emb y = ix3 (im t) (y 1 : Fin 1) (y 2 : Fin 224) := by
    blk_ext [idx t, im]
  rw [e]
  exact (congrArg _ (Blk.eq_ix3_00 y)).trans (out7_at (img m c (im t)) _ _ _ _ _ _ (i0 m c t) (i1 m c t) (i2 m c t) (i3 m c t) (i4 m c t) (i5 m c t) (y 2))

/-- The run: both result arrays at the model's values, the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v9_0) = (fun y => (img m c (y 0)).Q (y 1) (y 2))
      ∧ r.2.mem ((c.tc : Thread nD τ).loc main_v9_1) = (fun y => (img m c (y 0)).S (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 6).trans (arr6 m c), ((h.1 c).1 7).trans (arr7 m c), h.2.1 c⟩)
    (θ_run_and (run_main m ρ) (frame m ρ))

end Cert.ConvValue

end
-- ==== Proof.ConvRef.lean ====
/- Hand-written, untrusted: THE CONVOLUTION'S REFERENCE READ AT AN INDEX. Its 32-bit integer accumulation never wraps, so each
   partial sum is the model's integer; then the dequantised value, the layer norm and the row quantisation at an index, and
   the two results at image `i`. -/
module

public import proofs.«01_k».proof.Proof.Gen.ConvReferenceIdeal.Run
public import proofs.«01_k».proof.Proof.ConvModel
public import proofs.«01_k».proof.Proof.RefRead

@[expose] public section

set_option maxRecDepth 16384

noncomputable section

namespace Cert.ConvRef

open Cert.ConvReferenceIdeal Cert.ConvReferenceIdeal.Gen Cert.ConvReferenceIdeal.Value
open Idealize.ShloMosaic Idealize.ShloMosaic.TcCoe Idealize.SL.Sem
open Idealize.ShloMosaic.StableHlo Idealize.ShloMosaic.Pointwise Cert.Model Cert.ConvModel

/-- A sum of a bounded partial sum and a bounded product does not wrap. -/
theorem acc_toInt (a x y : BitVec 32) (A B C : ℤ) (ha : a.toInt = A) (hx : x.toInt = B) (hy : y.toInt = C)
    (h1 : |A + B * C| ≤ 2000000000) (h2 : |B * C| ≤ 2000000000) : (a + x * y).toInt = A + B * C := by
  rw [abs_le] at h1 h2
  rw [BitVec.toInt_add, BitVec.toInt_mul, ha, hx, hy]
  rw [Int.bmod_eq_of_le (n := B * C) (by norm_num; omega) (by norm_num; omega)]
  exact Int.bmod_eq_of_le (by norm_num; omega) (by norm_num; omega)

section

variable (V0 : Valuation τ sig (Elt Ideal))

/-- The arguments. -/
abbrev a0 : Vec Ideal S128x14x16x512 .i8 := V0 (Proc.devRef .tc main_arg0)
abbrev a1 : Vec Ideal S_ .f32 := V0 (Proc.devRef .tc main_arg1)
abbrev a2 : Vec Ideal S7x7x512 .i8 := V0 (Proc.devRef .tc main_arg2)
abbrev a3 : Vec Ideal S512 .f32 := V0 (Proc.devRef .tc main_arg3)
abbrev a4 : Vec Ideal S512 .f32 := V0 (Proc.devRef .tc main_arg4)
abbrev a5 : Vec Ideal S512 .f32 := V0 (Proc.devRef .tc main_arg5)
abbrev a6 : Vec Ideal S512 .f32 := V0 (Proc.devRef .tc main_arg6)

/-- Image `i` of the arguments. -/
abbrev img (i : Fin 128) : Data :=
  image (fun i r p c => a0 V0 (ix4 i r p c)) (a1 V0 ix0) (fun a b c => a2 V0 (ix3 a b c)) (fun c => a3 V0 (ix1 c))
    (fun c => a4 V0 (ix1 c)) (fun c => a5 V0 (ix1 c)) (fun c => a6 V0 (ix1 c)) i

/-- The padded images. -/
theorem v1_at (i : Fin 128) (a : Fin 20) (b : Fin 22) (c : Fin 512) :
    (res_main_v1 (F := Ideal) V0 (ix4 i a b c) : BitVec 32).toInt = (img V0 i).pad a.val b.val c := by
  unfold res_main_v1; pointwise
  unfold Codes.pad
  by_cases h : (3 ≤ a.val ∧ a.val < 17) ∧ (3 ≤ b.val ∧ b.val < 19)
  · rw [dif_pos h]
    refine (congrArg BitVec.toInt (dif_pos ?_)).trans ?_
    · intro k
      match k with
      | ⟨0, _⟩ => exact ⟨Nat.zero_le _, Nat.mod_one _, by show (i.val - 0) / 1 < 128; omega⟩
      | ⟨1, _⟩ => exact ⟨h.1.1, Nat.mod_one _, by show (a.val - 3) / 1 < 14; omega⟩
      | ⟨2, _⟩ => exact ⟨h.2.1, Nat.mod_one _, by show (b.val - 3) / 1 < 16; omega⟩
      | ⟨3, _⟩ => exact ⟨Nat.zero_le _, Nat.mod_one _, by show (c.val - 0) / 1 < 512; omega⟩
    · exact RefForm.signExtend_toInt _
  · rw [dif_neg h]
    refine (congrArg BitVec.toInt (dif_neg fun h' => h ?_)).trans rfl
    have k1 : 3 ≤ a.val ∧ _ ∧ (a.val - 3) / 1 < 14 := h' 1
    have k2 : 3 ≤ b.val ∧ _ ∧ (b.val - 3) / 1 < 16 := h' 2
    omega

/-- The taps. -/
theorem v2_at (a b : Fin 7) (c : Fin 512) :
    (res_main_v2 (F := Ideal) V0 (ix3 a b c) : BitVec 32).toInt = (a2 V0 (ix3 a b c)).toInt := by
  unfold res_main_v2; pointwise
  exact RefForm.signExtend_toInt _

/-- A tap's product at an index. -/
theorem tap_at (X : IVec S128x20x22x512 32) (W : IVec S7x7x512 32) (i : Fin 128) (r : Fin 14) (p : Fin 16) (c : Fin 512) {di dj : ℕ}
    {hs : S128x20x22x512.Slices ![0, di, dj, 0] S128x14x16x512} {hw : S7x7x512.Slices ![di, dj, 0] S1x1x512}
    (hi : di < 7) (hj : dj < 7) :
    muli (extractStridedSlice S128x14x16x512 ![0, di, dj, 0] X hs)
      (broadcastInDim S128x14x16x512 ![0, 1, 2, 3] bcast_S1x1x1x512_S128x14x16x512_0_1_2_3
        (broadcastInDim S1x1x1x512 ![3] bcast_S512_S1x1x1x512_3
          (shapeCast _ (extractStridedSlice S1x1x512 ![di, dj, 0] W hw) shapeCasts_S1x1x512_S512))) (ix4 i r p c)
      = X (ix4 i ⟨r.val + di, by omega⟩ ⟨p.val + dj, by omega⟩ c) * W (ix3 ⟨di, hi⟩ ⟨dj, hj⟩ c) := by
  have e1 : (⟨r.val + di, by omega⟩ : Fin 20) = ⟨di + r.val, by omega⟩ := Fin.ext (Nat.add_comm _ _)
  have e2 : (⟨p.val + dj, by omega⟩ : Fin 22) = ⟨dj + p.val, by omega⟩ := Fin.ext (Nat.add_comm _ _)
  rw [e1, e2]
  pointwise
  rfl

/-- One more tap. -/
theorem step (a : IVec S128x14x16x512 32) (i : Fin 128) (r : Fin 14) (p : Fin 16) (c : Fin 512) {n di dj : ℕ}
    {hs : S128x20x22x512.Slices ![0, di, dj, 0] S128x14x16x512} {hw : S7x7x512.Slices ![di, dj, 0] S1x1x512}
    (hi : di < 7) (hj : dj < 7) (hn : n = 7 * di + dj)
    (h : (a (ix4 i r p c)).toInt = (img V0 i).sum r.val p.val c n) :
    (addi a (muli (extractStridedSlice S128x14x16x512 ![0, di, dj, 0] (res_main_v1 V0) hs)
      (broadcastInDim S128x14x16x512 ![0, 1, 2, 3] bcast_S1x1x1x512_S128x14x16x512_0_1_2_3
        (broadcastInDim S1x1x1x512 ![3] bcast_S512_S1x1x1x512_3
          (shapeCast _ (extractStridedSlice S1x1x512 ![di, dj, 0] (res_main_v2 V0) hw) shapeCasts_S1x1x512_S512)))) (ix4 i r p c)).toInt
      = (img V0 i).sum r.val p.val c (n + 1) := by
  have e1 : n / 7 = di := by omega
  have e2 : n % 7 = dj := by omega
  have hx := v1_at V0 i ⟨r.val + di, by omega⟩ ⟨p.val + dj, by omega⟩ c
  have hw' : (res_main_v2 (F := Ideal) V0 (ix3 ⟨di, hi⟩ ⟨dj, hj⟩ c) : BitVec 32).toInt = ((img V0 i).w n c).toInt := by
    refine (v2_at V0 ⟨di, hi⟩ ⟨dj, hj⟩ c).trans ?_
    have f1 : (⟨n / 7 % 7, Nat.mod_lt _ (by decide)⟩ : Fin 7) = ⟨di, hi⟩ := Fin.ext (by show n / 7 % 7 = di; omega)
    have f2 : (⟨n % 7, Nat.mod_lt _ (by decide)⟩ : Fin 7) = ⟨dj, hj⟩ := Fin.ext e2
    show _ = (a2 V0 (ix3 ⟨n / 7 % 7, Nat.mod_lt _ (by decide)⟩ ⟨n % 7, Nat.mod_lt _ (by decide)⟩ c)).toInt
    rw [f1, f2]
  have hs : (img V0 i).sum r.val p.val c (n + 1)
      = (img V0 i).sum r.val p.val c n + (img V0 i).pad (r.val + di) (p.val + dj) c * ((img V0 i).w n c).toInt := by
    show (img V0 i).sum r.val p.val c n + (img V0 i).pad (r.val + n / 7) (n % 7 + p.val) c * ((img V0 i).w n c).toInt = _
    rw [e1, e2, add_comm dj]
  have b1 := (img V0 i).sum_le r.val p.val c (n + 1)
  have b2 := (img V0 i).term_le (r.val + di) (p.val + dj) n c
  rw [hs] at b1 ⊢
  refine (congrArg (fun z : BitVec 32 => (a (ix4 i r p c) + z).toInt) (tap_at (res_main_v1 V0) (res_main_v2 V0) i r p c hi hj)).trans ?_
  exact acc_toInt _ _ _ _ _ _ h hx hw' (by push_cast at b1; omega) (by omega)

/-- The sum over the first 10 taps; then over 20, 30, 40. -/
theorem v73_at (i : Fin 128) (r : Fin 14) (p : Fin 16) (c : Fin 512) :
    (res_main_v73 (F := Ideal) V0 (ix4 i r p c) : BitVec 32).toInt = (img V0 i).sum r.val p.val c 10 := by
  unfold res_main_v73
  iterate 10 refine step V0 _ i r p c (by decide) (by decide) (by decide) ?_
  pointwise
  rfl

theorem v143_at (i : Fin 128) (r : Fin 14) (p : Fin 16) (c : Fin 512) :
    (res_main_v143 (F := Ideal) V0 (ix4 i r p c) : BitVec 32).toInt = (img V0 i).sum r.val p.val c 20 := by
  unfold res_main_v143
  iterate 10 refine step V0 _ i r p c (by decide) (by decide) (by decide) ?_
  exact v73_at V0 i r p c

theorem v213_at (i : Fin 128) (r : Fin 14) (p : Fin 16) (c : Fin 512) :
    (res_main_v213 (F := Ideal) V0 (ix4 i r p c) : BitVec 32).toInt = (img V0 i).sum r.val p.val c 30 := by
  unfold res_main_v213
  iterate 10 refine step V0 _ i r p c (by decide) (by decide) (by decide) ?_
  exact v143_at V0 i r p c

theorem v283_at (i : Fin 128) (r : Fin 14) (p : Fin 16) (c : Fin 512) :
    (res_main_v283 (F := Ideal) V0 (ix4 i r p c) : BitVec 32).toInt = (img V0 i).sum r.val p.val c 40 := by
  unfold res_main_v283
  iterate 10 refine step V0 _ i r p c (by decide) (by decide) (by decide) ?_
  exact v213_at V0 i r p c

/-- Dequantising an integer accumulator. -/
theorem deq_at (a : IVec S128x14x16x512 32) (xs : Vec Ideal S_ .f32) (ws b : Vec Ideal S512 .f32) (i : Fin 128) (r : Fin 14) (p : Fin 16) (c : Fin 512) :
    addf (F := Ideal) (mulf (sitofp .f32 a) (broadcastInDim S128x14x16x512 ![0, 1, 2, 3] bcast_S1x1x1x512_S128x14x16x512_0_1_2_3
        (broadcastInDim S1x1x1x512 ![3] bcast_S512_S1x1x1x512_3 (mulf (broadcastInDim S512 ![] bcast_S_S512 xs) ws))))
      (broadcastInDim S128x14x16x512 ![0, 1, 2, 3] bcast_S1x1x1x512_S128x14x16x512_0_1_2_3
        (broadcastInDim S1x1x1x512 ![3] bcast_S512_S1x1x1x512_3 b)) (ix4 i r p c)
      = (((a (ix4 i r p c)).toInt : ℝ) : EReal) * (xs ix0 * ws (ix1 c)) + b (ix1 c) := by
  pointwise
  rfl

/-- The dequantised convolution. -/
theorem v355_at (i : Fin 128) (r : Fin 14) (p : Fin 16) (c : Fin 512) :
    res_main_v355 (F := Ideal) V0 (ix4 i r p c) = (img V0 i).d r p c := by
  unfold res_main_v355
  refine (deq_at _ _ _ _ i r p c).trans ?_
  refine congrArg (fun z : ℤ => ((z : ℝ) : EReal) * (img V0 i).sc c + (img V0 i).bias c) ?_
  iterate 9 refine step V0 _ i r p c (by decide) (by decide) (by decide) ?_
  exact v283_at V0 i r p c

/-! ## The layers after the convolution, on any array -/

/-- A row's mean, at each entry of the row. -/
def fMean (d : FVec Ideal S128x14x16x512 .f32) : FVec Ideal S128x14x16x1 .f32 :=
  Host.divf (broadcastInDim S128x14x16x1 ![0, 1, 2] bcast_S128x14x16_S128x14x16x1_0_1_2 (Host.reduceAdd d (constant S_ .f32 0x00000000#32) reducesTo_S128x14x16x512_S128x14x16_d3 h_S_)) (broadcastInDim S128x14x16x1 ![] bcast_S_S128x14x16x1 (constant S_ .f32 0x44000000#32))

/-- The centred rows. -/
def fCen (d : FVec Ideal S128x14x16x512 .f32) : FVec Ideal S128x14x16x512 .f32 :=
  subf d (broadcastInDim S128x14x16x512 ![0, 1, 2, 3] bcast_S128x14x16x1_S128x14x16x512_0_1_2_3 (fMean d))

/-- The normalised rows, from the centred ones. -/
def fNrm (e : FVec Ideal S128x14x16x512 .f32) (g b : Vec Ideal S512 .f32) : FVec Ideal S128x14x16x512 .f32 :=
  addf (mulf (Host.divf e (broadcastInDim S128x14x16x512 ![0, 1, 2, 3] bcast_S128x14x16x1_S128x14x16x512_0_1_2_3 (Host.sqrt (addf (fMean (mulf e e)) (broadcastInDim S128x14x16x1 ![] bcast_S_S128x14x16x1 (constant S_ .f32 0x358637BD#32)))))) (broadcastInDim S128x14x16x512 ![0, 1, 2, 3] bcast_S1x1x1x512_S128x14x16x512_0_1_2_3 (broadcastInDim S1x1x1x512 ![3] bcast_S512_S1x1x1x512_3 g))) (broadcastInDim S128x14x16x512 ![0, 1, 2, 3] bcast_S1x1x1x512_S128x14x16x512_0_1_2_3 (broadcastInDim S1x1x1x512 ![3] bcast_S512_S1x1x1x512_3 b))

/-- The rows' largest magnitudes. -/
def fMax (n : FVec Ideal S128x14x16x512 .f32) : FVec Ideal S128x14x16 .f32 :=
  Host.reduce FloatOps.maximumf (Host.absf n) (constant S_ .f32 0xFF800000#32) reducesTo_S128x14x16x512_S128x14x16_d3 h_S_

/-- The rows' scales. -/
def fSc (a : FVec Ideal S128x14x16 .f32) : FVec Ideal S128x14x16 .f32 :=
  select (cmpf .oeq a (broadcastInDim S128x14x16 ![] bcast_S_S128x14x16 (constant S_ .f32 0x00000000#32))) (broadcastInDim S128x14x16 ![] bcast_S_S128x14x16 (id (constant S_ .f32 0x3F800000#32))) (Host.divf a (broadcastInDim S128x14x16 ![] bcast_S_S128x14x16 (constant S_ .f32 0x42FE0000#32)))

/-- The rows' codes. -/
def fQ (n : FVec Ideal S128x14x16x512 .f32) (s : FVec Ideal S128x14x16 .f32) : IVec S128x14x16x512 8 :=
  trunci 8 (fptosi 32 (minimumf (broadcastInDim S128x14x16x512 ![] bcast_S_S128x14x16x512 (id (constant S_ .f32 0x42FE0000#32))) (maximumf (broadcastInDim S128x14x16x512 ![] bcast_S_S128x14x16x512 (id (constant S_ .f32 0xC2FE0000#32))) (Host.roundeven (Host.divf n (broadcastInDim S128x14x16x512 ![0, 1, 2, 3] bcast_S128x14x16x1_S128x14x16x512_0_1_2_3 (broadcastInDim S128x14x16x1 ![0, 1, 2] bcast_S128x14x16_S128x14x16x1_0_1_2 s))))))) natLt_8_32

theorem fMean_at (d : FVec Ideal S128x14x16x512 .f32) (i : Fin 128) (y : Fin 14) (x : Fin 16) :
    fMean d (ix4 i y x 0) = mean (fun k => d (ix4 i y x k)) := by
  unfold fMean; pointwise; rfl

theorem fCen_at (d : FVec Ideal S128x14x16x512 .f32) (i : Fin 128) (y : Fin 14) (x : Fin 16) (k : Fin 512) :
    fCen d (ix4 i y x k) = cen (fun k => d (ix4 i y x k)) k := by
  unfold fCen; pointwise; rw [fMean_at]; rfl

theorem fNrm_at (e : FVec Ideal S128x14x16x512 .f32) (g b : Vec Ideal S512 .f32) (i : Fin 128) (y : Fin 14) (x : Fin 16) (k : Fin 512) :
    fNrm e g b (ix4 i y x k) = Ideal.div (e (ix4 i y x k))
      (Ideal.sqrt (mean (fun k => e (ix4 i y x k) * e (ix4 i y x k)) + Ideal.ofBits .f32 0x358637BD#32)) * g (ix1 k) + b (ix1 k) := by
  unfold fNrm; pointwise; rw [fMean_at]; rfl

theorem fMax_at (n : FVec Ideal S128x14x16x512 .f32) (i : Fin 128) (y : Fin 14) (x : Fin 16) :
    fMax n (ix3 i y x) = amax fun k => n (ix4 i y x k) := by
  unfold fMax; pointwise; rfl

theorem fSc_at (a : FVec Ideal S128x14x16 .f32) (i : Fin 128) (y : Fin 14) (x : Fin 16) :
    fSc a (ix3 i y x) = if a (ix3 i y x) = 0 then 1 else Ideal.div (a (ix3 i y x)) (Ideal.ofBits .f32 0x42FE0000#32) := by
  have e : (id (constant (F := Ideal) S_ .f32 0x3F800000#32) ix0 : EReal) = 1 := Alg.ofBits_one
  unfold fSc; pointwise
  rw [e]

theorem fQ_at (n : FVec Ideal S128x14x16x512 .f32) (s : FVec Ideal S128x14x16 .f32) (i : Fin 128) (y : Fin 14) (x : Fin 16) (k : Fin 512) :
    fQ n s (ix4 i y x k) = Ideal.fptosi 8 (Alg.clipRound (Ideal.div (n (ix4 i y x k)) (s (ix3 i y x)))) := by
  unfold fQ; pointwise
  exact Alg.code_trunc _

/-! ## The reference -/

/-- The centred values. -/
theorem v361_at (i : Fin 128) (r : Fin 14) (p : Fin 16) (c : Fin 512) :
    res_main_v361 (F := Ideal) V0 (ix4 i r p c) = cen ((img V0 i).d r p) c := by
  refine (fCen_at (res_main_v355 (F := Ideal) V0) i r p c).trans ?_
  exact congrArg (cen · c) (funext fun k => v355_at V0 i r p k)

/-- The normalised values. -/
theorem v377_at (i : Fin 128) (p : Fin 224) (c : Fin 512) :
    res_main_v377 (F := Ideal) V0 (ix4 i (rowY p) (rowX p) c) = (img V0 i).n p c := by
  refine (fNrm_at (res_main_v361 (F := Ideal) V0) (a5 V0) (a6 V0) i (rowY p) (rowX p) c).trans ?_
  have e : ∀ k, res_main_v361 (F := Ideal) V0 (ix4 i (rowY p) (rowX p) k) = cen ((img V0 i).d (rowY p) (rowX p)) k :=
    fun k => v361_at V0 i _ _ k
  exact congrArg (fun f : Fin 512 → EReal => Ideal.div (f c) (Ideal.sqrt (mean (fun k => f k * f k) + Ideal.ofBits .f32 0x358637BD#32))
    * a5 V0 (ix1 c) + a6 V0 (ix1 c)) (funext e)

/-- The row scales. -/
theorem v384_at (i : Fin 128) (p : Fin 224) :
    res_main_v384 (F := Ideal) V0 (ix3 i (rowY p) (rowX p)) = (img V0 i).S p := by
  have e : res_main_v379 (F := Ideal) V0 (ix3 i (rowY p) (rowX p)) = amax (fun k => (img V0 i).n p k) :=
    (fMax_at (res_main_v377 (F := Ideal) V0) i _ _).trans (congrArg amax (funext fun k => v377_at V0 i p k))
  refine (fSc_at (res_main_v379 (F := Ideal) V0) i (rowY p) (rowX p)).trans ?_
  exact congrArg (fun a : EReal => if a = 0 then (1 : EReal) else Ideal.div a (Ideal.ofBits .f32 0x42FE0000#32)) e

/-- The result codes, as the run states them. -/
def res0 : (Proc.devRef .tc main_v392 : DevRef τ sig).ty.Contents (Elt Ideal) :=
  shapeCast _ (fQ (res_main_v377 V0) (res_main_v384 V0)) shapeCasts_S128x14x16x512_S128x224x512

/-- The result scales. -/
def res1 : (Proc.devRef .tc main_v393 : DevRef τ sig).ty.Contents (Elt Ideal) :=
  shapeCast _ (res_main_v384 V0) shapeCasts_S128x14x16_S128x1x224

theorem flat_at (q : IVec S128x14x16x512 8) (i : Fin 128) (p : Fin 224) (c : Fin 512) :
    shapeCast S128x224x512 q shapeCasts_S128x14x16x512_S128x224x512 (ix3 i p c) = q (ix4 i (rowY p) (rowX p) c) := by
  pointwise

theorem flat_scale_at (s : FVec Ideal S128x14x16 .f32) (i : Fin 128) (p : Fin 224) :
    shapeCast S128x1x224 s shapeCasts_S128x14x16_S128x1x224 (ix3 i 0 p) = s (ix3 i (rowY p) (rowX p)) := by
  pointwise

/-- The codes at image `i`. -/
theorem res0_at (i : Fin 128) (p : Fin 224) (c : Fin 512) : res0 V0 (ix3 i p c) = (img V0 i).Q p c := by
  refine (flat_at _ i p c).trans ((fQ_at (res_main_v377 V0) (res_main_v384 V0) i (rowY p) (rowX p) c).trans ?_)
  exact congrArg₂ (fun a b : EReal => Ideal.fptosi 8 (Alg.clipRound (Ideal.div a b))) (v377_at V0 i p c) (v384_at V0 i p)

/-- The scales at image `i`. -/
theorem res1_at (i : Fin 128) (p : Fin 224) : res1 V0 (ix3 i 0 p) = (img V0 i).S p :=
  (flat_scale_at _ i p).trans (v384_at V0 i p)

end

end Cert.ConvRef

end
-- ==== Proof.lean ====
/-
  The certificate's claims, of two calls. Of each: the frames of its three programs, what its idealization replaced, and
  the equality of the kernel's results with the reference's on the extended reals. Both programs' results are read, entry
  by entry, as the same functions of one image of the arguments: for the MLP call in Proof/Model.lean (the kernel's in
  Proof/Run.lean, the reference's in Proof/RefRead.lean), for the convolution call in Proof/ConvModel.lean (the kernel's
  in Proof/ConvValue.lean, the reference's in Proof/ConvRef.lean).
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Conv.Frame
public import proofs.«01_k».proof.Proof.Gen.ConvReferenceIdeal.Run
public import proofs.«01_k».proof.Proof.Run
public import proofs.«01_k».proof.Proof.RefRead
public import proofs.«01_k».proof.Proof.ConvValue
public import proofs.«01_k».proof.Proof.ConvRef
public import Idealize.ShloMosaic.Adequacy
public import Idealize.ShloMosaic.Init

@[expose] public section

noncomputable section

namespace Cert.Proof

open Idealize.ShloMosaic Idealize.ShloMosaic.TcCoe Idealize.SL.Sem Idealize.ShloMosaic.Pointwise

/-! ## The frames and the named constant -/

theorem frame_p : Cert.quiescent_Kernel := fun m ρ _ => Cert.Kernel.Gen.frame m ρ
theorem frame_pi : Cert.quiescent_KernelIdeal := fun m ρ _ => Cert.KernelIdeal.Gen.frame m ρ
theorem frame_pi_pre [Cert.Pre_nonzero_out_scale.Facts] : Cert.quiescent_KernelIdeal_pre_nonzero_out_scale :=
  fun m ρ _ => Cert.KernelIdeal.Gen.frame m ρ

/-- The reference runs, changes no argument, and has no semaphore. -/
theorem frame_ri : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)
theorem frame_ri_pre [Cert.Pre_nonzero_out_scale.Facts] : Cert.quiescent_ReferenceIdeal_pre_nonzero_out_scale :=
  fun m ρ _ => frame_ri m ρ trivial

/-- The constant the kernel names is the reciprocal of the root of two. -/
theorem preserves : Cert.preserves_Kernel_KernelIdeal :=
  IdealRules.named_const.statement Cert.KernelIdeal.κ "inv_sqrt2" .f32 0x3F3504F3#32 (((Real.sqrt 2)⁻¹ : ℝ) : EReal) rfl

/-! ## The results -/

/-- Under the precondition the output scale is not zero. -/
theorem scale_ne [Cert.Pre_nonzero_out_scale.Facts]
    (m : (ℓ : Loc Cert.KernelIdeal.nD Cert.KernelIdeal.τ Cert.KernelIdeal.sig) → Buf (Elt Ideal) ℓ)
    (h : Cert.Pre_KernelIdeal_nonzero_out_scale m) (c : Dev Cert.KernelIdeal.nD) :
    (m ((c : Thread Cert.KernelIdeal.nD Cert.KernelIdeal.τ).loc Cert.KernelIdeal.main_arg11)) ix0 ≠ (0 : EReal) := by
  intro h0
  have e := congrFun (h c) ix0
  unfold Cert.Pre_nonzero_out_scale.fn at e
  simp only [cmpf, constant, Ideal.cmpf_def, Ideal.ofBits_def, Ideal.ofBits_zero_f32] at e
  rw [h0] at e
  simp [Ideal.cmp] at e

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The outputs agree. -/
theorem res0 (e : ∀ i, Cert.RefForm.img m' c i = Cert.Run.img m c i) :
    Cert.ReferenceIdeal.Value.res_out0 m' c = Cert.KernelIdeal.Value.G12 m c := by
  rw [Cert.Run.arr12]
  funext y
  have hy := eq_ix3 y
  refine (congrArg (Cert.ReferenceIdeal.Value.res_out0 m' c) hy).trans ((Cert.RefForm.out0_at m' c (y 0) (y 1) (y 2)).trans ?_)
  exact congrArg (fun I => I.R (y 1) (y 2)) (e (y 0))

/-- The output codes agree, the output scale not being zero. -/
theorem res1 (e : ∀ i, Cert.RefForm.img m' c i = Cert.Run.img m c i)
    (h : (m ((c : Thread Cert.KernelIdeal.nD Cert.KernelIdeal.τ).loc Cert.KernelIdeal.main_arg11)) ix0 ≠ (0 : EReal)) :
    Cert.ReferenceIdeal.Value.res_out1 m' c = Cert.KernelIdeal.Value.G13 m c := by
  rw [Cert.Run.arr13 m c h]
  funext y
  have hy := eq_ix3 y
  refine (congrArg (Cert.ReferenceIdeal.Value.res_out1 m' c) hy).trans ((Cert.RefForm.out1_at m' c (y 0) (y 1) (y 2)).trans ?_)
  exact congrArg (fun I => Ideal.fptosi 8 (I.O (y 1) (y 2))) (e (y 0))

/-- The response rows agree. -/
theorem res2 (e : ∀ i, Cert.RefForm.img m' c i = Cert.Run.img m c i) :
    Cert.ReferenceIdeal.Value.res_out2 m' c = Cert.KernelIdeal.Value.G14 m c := by
  rw [Cert.Run.arr14]
  funext y
  have hy : y = ix3 (y 0 : Fin 128) (0 : Fin 1) (y 2 : Fin 2048) :=
    (eq_ix3 y).trans (congrArg (fun a : Fin 1 => ix3 (y 0 : Fin 128) a (y 2 : Fin 2048)) (Subsingleton.elim (α := Fin 1) (y 1) 0))
  refine (congrArg (Cert.ReferenceIdeal.Value.res_out2 m' c) hy).trans ((Cert.RefForm.out2_at m' c (y 0) (y 2)).trans ?_)
  exact congrArg (fun I => I.gx (y 2)) (e (y 0))

/-- The hidden activations' codes agree. -/
theorem res3 (e : ∀ i, Cert.RefForm.img m' c i = Cert.Run.img m c i) :
    Cert.ReferenceIdeal.Value.res_out3 m' c = Cert.KernelIdeal.Value.G15 m c := by
  rw [Cert.Run.arr15]
  funext y
  have hy := eq_ix3 y
  refine (congrArg (Cert.ReferenceIdeal.Value.res_out3 m' c) hy).trans ((Cert.RefForm.out3_at m' c (y 0) (y 1) (y 2)).trans ?_)
  exact congrArg (fun I => Ideal.fptosi 8 (I.Q (y 1) (y 2))) (e (y 0))

/-- The hidden activations' scales agree. -/
theorem res4 (e : ∀ i, Cert.RefForm.img m' c i = Cert.Run.img m c i) :
    Cert.ReferenceIdeal.Value.res_out4 m' c = Cert.KernelIdeal.Value.G16 m c := by
  rw [Cert.Run.arr16]
  funext y
  have hy : y = ix3 (y 0 : Fin 128) (0 : Fin 1) (y 2 : Fin 224) :=
    (eq_ix3 y).trans (congrArg (fun a : Fin 1 => ix3 (y 0 : Fin 128) a (y 2 : Fin 224)) (Subsingleton.elim (α := Fin 1) (y 1) 0))
  refine (congrArg (Cert.ReferenceIdeal.Value.res_out4 m' c) hy).trans ((Cert.RefForm.out4_at m' c (y 0) (y 2)).trans ?_)
  exact congrArg (fun I => I.S (y 2)) (e (y 0))

end

/-- At the ideal instance the kernel and the reference, run on equal arguments with a nonzero output scale, end with equal
    outputs, output codes, response rows, hidden codes and hidden scales. -/
theorem algebraic [Cert.Pre_nonzero_out_scale.Facts] :
    Cert.algebraic_KernelIdeal_ReferenceIdeal_pre_nonzero_out_scale := by
  intro m g m' g' hpre hagree
  have e : ∀ (c : Dev Cert.KernelIdeal.nD) (i : Fin 128), Cert.RefForm.img m' c i = Cert.Run.img m c i := by
    intro c i
    obtain ⟨h0, h1, h2, h3, h4, h5, h6, h7, h8, h9, h10, h11⟩ := hagree c
    unfold Cert.RefForm.img Cert.Run.img
    refine Eq.trans ?_ (congr (congr (congr (congr (congr (congr (congr (congr (congr (congr (congr (congrArg Cert.Model.image h0) h1) h2) h3) h4) h5) h6) h7) h8) h9) h10) h11 |> fun h => congrFun h i)
    rfl
  refine ⟨_, _, _, _, _, Cert.KernelIdeal.Value.run (F := Ideal) m g, ?_⟩
  refine (θ_run Cert.ReferenceIdeal.defs _ _).mono (fun _ h c => ?_) (Cert.ReferenceIdeal.Value.run (F := Ideal) m' g')
  obtain ⟨r0, r1, r2, r3, r4, ra⟩ := h c
  exact ⟨r0.trans (res0 m m' c (e c)), r1.trans (res1 m m' c (e c) (scale_ne m hpre c)), r2.trans (res2 m m' c (e c)),
    r3.trans (res3 m m' c (e c)), r4.trans (res4 m m' c (e c)), ra⟩

/-! ## The convolution -/

/-- The convolution and its idealization have the same body: nothing was replaced. -/
theorem conv_defs₀ : Cert.Conv.defs₀ (F := Bits) = Cert.ConvIdeal.defs₀ (F := Bits) := by
  unfold Cert.Conv.defs₀ Cert.ConvIdeal.defs₀
  refine congrArg Defs.onTc ?_
  funext l a
  match l, a with
  | 0, (t, s) => rfl

theorem conv_defs : Cert.Conv.defs (F := Bits) = Cert.ConvIdeal.defs (F := Bits) :=
  congrArg (Pipeline.defs (Cert.ConvIdeal.pcfgs (F := Bits))) conv_defs₀

theorem frame_conv : Cert.quiescent_Conv := fun m ρ _ => by
  rw [conv_defs]; exact Cert.ConvIdeal.Body.frame (F := Bits) m ρ
theorem frame_conv_ideal : Cert.quiescent_ConvIdeal := fun m ρ _ => Cert.ConvIdeal.Body.frame m ρ

/-- The reference runs, changes no argument, and has no semaphore. -/
theorem frame_conv_ref : Cert.quiescent_ConvReferenceIdeal := fun m ρ _ =>
  (θ_run Cert.ConvReferenceIdeal.defs _ _).mono (fun r h => ⟨fun c => (h c).2.2,
      Idealize.ShloMosaic.sem_eq_zero_of_no_sems (by decide) r.2⟩)
    (Cert.ConvReferenceIdeal.Value.run (F := Ideal) m ρ)

theorem preserves_conv : Cert.preserves_Conv_ConvIdeal := trivial

/-- At the ideal instance the convolution and its reference, run on equal arguments, end with equal codes and scales. -/
theorem algebraic_conv : Cert.algebraic_ConvIdeal_ConvReferenceIdeal := by
  intro m g m' g' _ hagree
  have e : ∀ (c : Dev Cert.ConvIdeal.nD) (i : Fin 128), Cert.ConvRef.img (StableHlo.launchContents m' c) i = Cert.ConvValue.img m c i := by
    intro c i
    obtain ⟨h0, h1, h2, h3, h4, h5, h6⟩ := hagree c
    have k0 : Cert.ConvRef.a0 (StableHlo.launchContents m' c) = Cert.ConvValue.a0 m c := h0
    have k1 : Cert.ConvRef.a1 (StableHlo.launchContents m' c) = Cert.ConvValue.a1 m c := h1
    have k2 : Cert.ConvRef.a2 (StableHlo.launchContents m' c) = Cert.ConvValue.a2 m c := h2
    have k3 : Cert.ConvRef.a3 (StableHlo.launchContents m' c) = Cert.ConvValue.a3 m c := h3
    have k4 : Cert.ConvRef.a4 (StableHlo.launchContents m' c) = Cert.ConvValue.a4 m c := h4
    have k5 : Cert.ConvRef.a5 (StableHlo.launchContents m' c) = Cert.ConvValue.a5 m c := h5
    have k6 : Cert.ConvRef.a6 (StableHlo.launchContents m' c) = Cert.ConvValue.a6 m c := h6
    unfold Cert.ConvRef.img Cert.ConvValue.img
    rw [k0, k1, k2, k3, k4, k5, k6]
  have r0 : ∀ c, Cert.ConvRef.res0 (StableHlo.launchContents m' c) = fun y => (Cert.ConvValue.img m c (y 0)).Q (y 1) (y 2) := by
    intro c; funext y
    refine (congrArg (Cert.ConvRef.res0 (StableHlo.launchContents m' c)) (eq_ix3 y)).trans ((Cert.ConvRef.res0_at _ (y 0) (y 1) (y 2)).trans ?_)
    exact congrArg (fun I : Cert.ConvModel.Data => I.Q (y 1) (y 2)) (e c (y 0))
  have r1 : ∀ c, Cert.ConvRef.res1 (StableHlo.launchContents m' c) = fun y => (Cert.ConvValue.img m c (y 0)).S (y 2) := by
    intro c; funext y
    have hy : y = ix3 (y 0 : Fin 128) (0 : Fin 1) (y 2 : Fin 224) :=
      (eq_ix3 y).trans (congrArg (fun a : Fin 1 => ix3 (y 0 : Fin 128) a (y 2 : Fin 224)) (Subsingleton.elim (α := Fin 1) (y 1) 0))
    refine (congrArg (Cert.ConvRef.res1 (StableHlo.launchContents m' c)) hy).trans ((Cert.ConvRef.res1_at _ (y 0) (y 2)).trans ?_)
    exact congrArg (fun I : Cert.ConvModel.Data => I.S (y 2)) (e c (y 0))
  refine ⟨_, _, Cert.ConvValue.run m g, ?_⟩
  refine (θ_run Cert.ConvReferenceIdeal.defs _ _).mono (fun _ h c => ?_) (Cert.ConvReferenceIdeal.Value.run (F := Ideal) m' g')
  obtain ⟨s0, s1, ra⟩ := h c
  exact ⟨s0.trans (r0 c), s1.trans (r1 c), ra⟩

/-- The certificate's claim. -/
theorem claim : Cert.Claim :=
  have hp : Cert.Pre_nonzero_out_scale.Facts := {}
  ⟨Cert.Conv.Gen.facts, Cert.ConvIdeal.Gen.facts, Cert.ConvReferenceIdeal.Gen.facts, Cert.Kernel.Gen.facts,
    Cert.KernelIdeal.Gen.facts, Cert.ReferenceIdeal.Gen.facts, hp,
    frame_conv, frame_conv_ideal, frame_conv_ref, frame_p, frame_pi, frame_pi_pre, frame_ri, frame_ri_pre,
    preserves_conv, algebraic_conv, preserves, algebraic⟩

end Cert.Proof

end
